-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S512x512 : Shape := ⟨2, ![512, 512]⟩
abbrev S256x512 : Shape := ⟨2, ![256, 512]⟩
abbrev S128x512 : Shape := ⟨2, ![128, 512]⟩
abbrev S_ : Shape := ⟨0, ![]⟩
abbrev S8 : Shape := ⟨1, ![8]⟩
abbrev S4 : Shape := ⟨1, ![4]⟩
abbrev S2 : Shape := ⟨1, ![2]⟩
abbrev S1 : Shape := ⟨1, ![1]⟩
abbrev S64x512 : Shape := ⟨2, ![64, 512]⟩
abbrev S1x64x512 : Shape := ⟨3, ![1, 64, 512]⟩
abbrev S1x2048x512 : Shape := ⟨3, ![1, 2048, 512]⟩

abbrev nBuf : Space → Nat
  | .hbm => 2
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S1x2048x1024, .f32⟩
  | .local _ .vmem, ⟨1, _⟩ => ⟨S2048x512, .f32⟩
  | .local _ .vmem, ⟨2, _⟩ => ⟨S512x512, .f32⟩
  | .local _ .vmem, ⟨3, _⟩ => ⟨S256x512, .f32⟩
  | .local _ .vmem, ⟨4, _⟩ => ⟨S512x512, .f32⟩
  | .local _ .vmem, ⟨5, _⟩ => ⟨S512x512, .f32⟩
  | .local _ .vmem, ⟨6, _⟩ => ⟨S128x512, .f32⟩
  | .local _ .vmem, ⟨7, _⟩ => ⟨S128x512, .f32⟩
  | .local _ .vmem, ⟨8, _⟩ => ⟨S512x512, .f32⟩
  | .local _ .vmem, ⟨9, _⟩ => ⟨S256x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  (ofTc nBuf bufTy 1 79 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32_22 : BitVec 32) : Fin 3 → Nat :=
  let c0_i32_23 : BitVec 32 := 0#32
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_20 : BitVec 32 := 512#32
  let v38 : BitVec 32 := Scalar.muli v25 c512_i32_20
  let v40 : BitVec 32 := Scalar.addi v38 c0_i32_22
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c512_i32 : BitVec 32 := 512#32
  let v37 : BitVec 32 := Scalar.muli v36 c512_i32
  ![0, v40.toNat, v37.toNat]
def k0_off2 (d0 : Dev nD) (c256_i32_51 : BitVec 32) : Fin 3 → Nat :=
  let c0_i32_52 : BitVec 32 := 0#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let v33 : BitVec 32 := Scalar.muli c2_i32_17 v32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_18 v18
  let v35 : BitVec 32 := Scalar.addi v33 v34
  let c512_i32_21 : BitVec 32 := 512#32
  let v39 : BitVec 32 := Scalar.muli v35 c512_i32_21
  let v88 : BitVec 32 := Scalar.addi v39 c256_i32_51
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c512_i32 : BitVec 32 := 512#32
  let v37 : BitVec 32 := Scalar.muli v36 c512_i32
  ![0, v88.toNat, v37.toNat]
def k0_off3 (d0 : Dev nD) : Fin 3 → Nat :=
  let c0_i32_72 : BitVec 32 := 0#32
  let c0_i32_73 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_71 : BitVec 32 := 512#32
  let v112 : BitVec 32 := Scalar.muli v5 c512_i32_71
  ![0, 0, v112.toNat]
def k0_dev1 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v116 : BitVec 32 := Scalar.muli v2 c8_i32_75
  let v117 : BitVec 32 := Scalar.addi c0_i32_76 v116
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_77 : BitVec 32 := 4#32
  let v118 : BitVec 32 := Scalar.muli v22 c4_i32_77
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v120 : BitVec 32 := Scalar.muli v8 c1_i32_78
  let v121 : BitVec 32 := Scalar.addi v119 v120
  v121.toNat
def k0_dev2 (d0 : Dev nD) : Nat :=
  let c0_i32_81 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_80 : BitVec 32 := 8#32
  let v122 : BitVec 32 := Scalar.muli v23 c8_i32_80
  let v123 : BitVec 32 := Scalar.addi c0_i32_81 v122
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v124 : BitVec 32 := Scalar.muli v5 c4_i32_82
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v126 : BitVec 32 := Scalar.muli v8 c1_i32_83
  let v127 : BitVec 32 := Scalar.addi v125 v126
  v127.toNat
def k0_dev3 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v128 : BitVec 32 := Scalar.muli v2 c8_i32_85
  let v129 : BitVec 32 := Scalar.addi c0_i32_86 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v130 : BitVec 32 := Scalar.muli v5 c4_i32_87
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_88 : BitVec 32 := 1#32
  let v132 : BitVec 32 := Scalar.muli v21 c1_i32_88
  let v133 : BitVec 32 := Scalar.addi v131 v132
  v133.toNat
def k0_dev4 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v140 : BitVec 32 := Scalar.muli v2 c8_i32_97
  let v141 : BitVec 32 := Scalar.addi c0_i32_98 v140
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_99 : BitVec 32 := 4#32
  let v142 : BitVec 32 := Scalar.muli v22 c4_i32_99
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v144 : BitVec 32 := Scalar.muli v8 c1_i32_100
  let v145 : BitVec 32 := Scalar.addi v143 v144
  v145.toNat
def k0_dev5 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v158 : BitVec 32 := Scalar.muli v2 c8_i32_112
  let v159 : BitVec 32 := Scalar.addi c0_i32_113 v158
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_114 : BitVec 32 := 4#32
  let v160 : BitVec 32 := Scalar.muli v22 c4_i32_114
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v162 : BitVec 32 := Scalar.muli v8 c1_i32_115
  let v163 : BitVec 32 := Scalar.addi v161 v162
  v163.toNat
def k0_dev6 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v176 : BitVec 32 := Scalar.muli v2 c8_i32_127
  let v177 : BitVec 32 := Scalar.addi c0_i32_128 v176
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_129 : BitVec 32 := 4#32
  let v178 : BitVec 32 := Scalar.muli v22 c4_i32_129
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v180 : BitVec 32 := Scalar.muli v8 c1_i32_130
  let v181 : BitVec 32 := Scalar.addi v179 v180
  v181.toNat
def k0_dev7 (d0 : Dev nD) : Nat :=
  let c0_i32_143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_142 : BitVec 32 := 8#32
  let v194 : BitVec 32 := Scalar.muli v2 c8_i32_142
  let v195 : BitVec 32 := Scalar.addi c0_i32_143 v194
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_144 : BitVec 32 := 4#32
  let v196 : BitVec 32 := Scalar.muli v22 c4_i32_144
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v198 : BitVec 32 := Scalar.muli v8 c1_i32_145
  let v199 : BitVec 32 := Scalar.addi v197 v198
  v199.toNat
def k0_dev8 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v212 : BitVec 32 := Scalar.muli v2 c8_i32_157
  let v213 : BitVec 32 := Scalar.addi c0_i32_158 v212
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_159 : BitVec 32 := 4#32
  let v214 : BitVec 32 := Scalar.muli v22 c4_i32_159
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v216 : BitVec 32 := Scalar.muli v8 c1_i32_160
  let v217 : BitVec 32 := Scalar.addi v215 v216
  v217.toNat
def k0_dev9 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v230 : BitVec 32 := Scalar.muli v2 c8_i32_172
  let v231 : BitVec 32 := Scalar.addi c0_i32_173 v230
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_174 : BitVec 32 := 4#32
  let v232 : BitVec 32 := Scalar.muli v22 c4_i32_174
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v234 : BitVec 32 := Scalar.muli v8 c1_i32_175
  let v235 : BitVec 32 := Scalar.addi v233 v234
  v235.toNat
def k0_dev10 (d0 : Dev nD) : Nat :=
  let c0_i32_188 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_187 : BitVec 32 := 8#32
  let v248 : BitVec 32 := Scalar.muli v2 c8_i32_187
  let v249 : BitVec 32 := Scalar.addi c0_i32_188 v248
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_189 : BitVec 32 := 4#32
  let v250 : BitVec 32 := Scalar.muli v22 c4_i32_189
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v252 : BitVec 32 := Scalar.muli v8 c1_i32_190
  let v253 : BitVec 32 := Scalar.addi v251 v252
  v253.toNat
def k0_dev11 (d0 : Dev nD) : Nat :=
  let c0_i32_203 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_202 : BitVec 32 := 8#32
  let v266 : BitVec 32 := Scalar.muli v2 c8_i32_202
  let v267 : BitVec 32 := Scalar.addi c0_i32_203 v266
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_204 : BitVec 32 := 4#32
  let v268 : BitVec 32 := Scalar.muli v22 c4_i32_204
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v270 : BitVec 32 := Scalar.muli v8 c1_i32_205
  let v271 : BitVec 32 := Scalar.addi v269 v270
  v271.toNat
def k0_dev12 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v284 : BitVec 32 := Scalar.muli v2 c8_i32_217
  let v285 : BitVec 32 := Scalar.addi c0_i32_218 v284
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_219 : BitVec 32 := 4#32
  let v286 : BitVec 32 := Scalar.muli v22 c4_i32_219
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v288 : BitVec 32 := Scalar.muli v8 c1_i32_220
  let v289 : BitVec 32 := Scalar.addi v287 v288
  v289.toNat
def k0_dev13 (d0 : Dev nD) : Nat :=
  let c0_i32_233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_232 : BitVec 32 := 8#32
  let v302 : BitVec 32 := Scalar.muli v2 c8_i32_232
  let v303 : BitVec 32 := Scalar.addi c0_i32_233 v302
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_234 : BitVec 32 := 4#32
  let v304 : BitVec 32 := Scalar.muli v22 c4_i32_234
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v306 : BitVec 32 := Scalar.muli v8 c1_i32_235
  let v307 : BitVec 32 := Scalar.addi v305 v306
  v307.toNat
def k0_dev14 (d0 : Dev nD) : Nat :=
  let c0_i32_248 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_247 : BitVec 32 := 8#32
  let v320 : BitVec 32 := Scalar.muli v2 c8_i32_247
  let v321 : BitVec 32 := Scalar.addi c0_i32_248 v320
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_249 : BitVec 32 := 4#32
  let v322 : BitVec 32 := Scalar.muli v22 c4_i32_249
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v324 : BitVec 32 := Scalar.muli v8 c1_i32_250
  let v325 : BitVec 32 := Scalar.addi v323 v324
  v325.toNat
def k0_dev15 (d0 : Dev nD) : Nat :=
  let c0_i32_263 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_262 : BitVec 32 := 8#32
  let v338 : BitVec 32 := Scalar.muli v2 c8_i32_262
  let v339 : BitVec 32 := Scalar.addi c0_i32_263 v338
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_264 : BitVec 32 := 4#32
  let v340 : BitVec 32 := Scalar.muli v22 c4_i32_264
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_265 : BitVec 32 := 1#32
  let v342 : BitVec 32 := Scalar.muli v8 c1_i32_265
  let v343 : BitVec 32 := Scalar.addi v341 v342
  v343.toNat
def k0_dev16 (d0 : Dev nD) : Nat :=
  let c0_i32_285 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_284 : BitVec 32 := 8#32
  let v362 : BitVec 32 := Scalar.muli v23 c8_i32_284
  let v363 : BitVec 32 := Scalar.addi c0_i32_285 v362
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_286 : BitVec 32 := 4#32
  let v364 : BitVec 32 := Scalar.muli v5 c4_i32_286
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v366 : BitVec 32 := Scalar.muli v8 c1_i32_287
  let v367 : BitVec 32 := Scalar.addi v365 v366
  v367.toNat
def k0_dev17 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v374 : BitVec 32 := Scalar.muli v2 c8_i32_294
  let v375 : BitVec 32 := Scalar.addi c0_i32_295 v374
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_296 : BitVec 32 := 4#32
  let v376 : BitVec 32 := Scalar.muli v5 c4_i32_296
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_297 : BitVec 32 := 1#32
  let v378 : BitVec 32 := Scalar.muli v21 c1_i32_297
  let v379 : BitVec 32 := Scalar.addi v377 v378
  v379.toNat
def k0_off4 (d0 : Dev nD) (c0_i32_303 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_302 : BitVec 32 := 512#32
  let v386 : BitVec 32 := Scalar.muli v25 c512_i32_302
  let v387 : BitVec 32 := Scalar.addi v386 c0_i32_303
  let v388 : Index := Scalar.indexCast v387
  let c0 : Index := 0#32
  ![v388.toNat, 0]
def k0_dev18 (d0 : Dev nD) : Nat :=
  let c0_i32_320 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_319 : BitVec 32 := 8#32
  let v405 : BitVec 32 := Scalar.muli v23 c8_i32_319
  let v406 : BitVec 32 := Scalar.addi c0_i32_320 v405
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_321 : BitVec 32 := 4#32
  let v407 : BitVec 32 := Scalar.muli v5 c4_i32_321
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v409 : BitVec 32 := Scalar.muli v8 c1_i32_322
  let v410 : BitVec 32 := Scalar.addi v408 v409
  v410.toNat
def k0_dev19 (d0 : Dev nD) : Nat :=
  let c0_i32_330 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_329 : BitVec 32 := 8#32
  let v417 : BitVec 32 := Scalar.muli v2 c8_i32_329
  let v418 : BitVec 32 := Scalar.addi c0_i32_330 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_331 : BitVec 32 := 4#32
  let v419 : BitVec 32 := Scalar.muli v5 c4_i32_331
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_332 : BitVec 32 := 1#32
  let v421 : BitVec 32 := Scalar.muli v21 c1_i32_332
  let v422 : BitVec 32 := Scalar.addi v420 v421
  v422.toNat
def k0_dev20 (d0 : Dev nD) : Nat :=
  let c0_i32_355 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_354 : BitVec 32 := 8#32
  let v448 : BitVec 32 := Scalar.muli v23 c8_i32_354
  let v449 : BitVec 32 := Scalar.addi c0_i32_355 v448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v450 : BitVec 32 := Scalar.muli v5 c4_i32_356
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v452 : BitVec 32 := Scalar.muli v8 c1_i32_357
  let v453 : BitVec 32 := Scalar.addi v451 v452
  v453.toNat
def k0_dev21 (d0 : Dev nD) : Nat :=
  let c0_i32_365 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_364 : BitVec 32 := 8#32
  let v460 : BitVec 32 := Scalar.muli v2 c8_i32_364
  let v461 : BitVec 32 := Scalar.addi c0_i32_365 v460
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_366 : BitVec 32 := 4#32
  let v462 : BitVec 32 := Scalar.muli v5 c4_i32_366
  let v463 : BitVec 32 := Scalar.addi v461 v462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_367 : BitVec 32 := 1#32
  let v464 : BitVec 32 := Scalar.muli v21 c1_i32_367
  let v465 : BitVec 32 := Scalar.addi v463 v464
  v465.toNat
def k0_dev22 (d0 : Dev nD) : Nat :=
  let c0_i32_390 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_389 : BitVec 32 := 8#32
  let v491 : BitVec 32 := Scalar.muli v23 c8_i32_389
  let v492 : BitVec 32 := Scalar.addi c0_i32_390 v491
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_391 : BitVec 32 := 4#32
  let v493 : BitVec 32 := Scalar.muli v5 c4_i32_391
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v495 : BitVec 32 := Scalar.muli v8 c1_i32_392
  let v496 : BitVec 32 := Scalar.addi v494 v495
  v496.toNat
def k0_dev23 (d0 : Dev nD) : Nat :=
  let c0_i32_400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_399 : BitVec 32 := 8#32
  let v503 : BitVec 32 := Scalar.muli v2 c8_i32_399
  let v504 : BitVec 32 := Scalar.addi c0_i32_400 v503
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_401 : BitVec 32 := 4#32
  let v505 : BitVec 32 := Scalar.muli v5 c4_i32_401
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_402 : BitVec 32 := 1#32
  let v507 : BitVec 32 := Scalar.muli v21 c1_i32_402
  let v508 : BitVec 32 := Scalar.addi v506 v507
  v508.toNat
def k0_dev24 (d0 : Dev nD) : Nat :=
  let c0_i32_425 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_424 : BitVec 32 := 8#32
  let v534 : BitVec 32 := Scalar.muli v23 c8_i32_424
  let v535 : BitVec 32 := Scalar.addi c0_i32_425 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_426 : BitVec 32 := 4#32
  let v536 : BitVec 32 := Scalar.muli v5 c4_i32_426
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v538 : BitVec 32 := Scalar.muli v8 c1_i32_427
  let v539 : BitVec 32 := Scalar.addi v537 v538
  v539.toNat
def k0_dev25 (d0 : Dev nD) : Nat :=
  let c0_i32_435 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_434 : BitVec 32 := 8#32
  let v546 : BitVec 32 := Scalar.muli v2 c8_i32_434
  let v547 : BitVec 32 := Scalar.addi c0_i32_435 v546
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_436 : BitVec 32 := 4#32
  let v548 : BitVec 32 := Scalar.muli v5 c4_i32_436
  let v549 : BitVec 32 := Scalar.addi v547 v548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_437 : BitVec 32 := 1#32
  let v550 : BitVec 32 := Scalar.muli v21 c1_i32_437
  let v551 : BitVec 32 := Scalar.addi v549 v550
  v551.toNat
def k0_dev26 (d0 : Dev nD) : Nat :=
  let c0_i32_460 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_459 : BitVec 32 := 8#32
  let v577 : BitVec 32 := Scalar.muli v23 c8_i32_459
  let v578 : BitVec 32 := Scalar.addi c0_i32_460 v577
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_461 : BitVec 32 := 4#32
  let v579 : BitVec 32 := Scalar.muli v5 c4_i32_461
  let v580 : BitVec 32 := Scalar.addi v578 v579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v581 : BitVec 32 := Scalar.muli v8 c1_i32_462
  let v582 : BitVec 32 := Scalar.addi v580 v581
  v582.toNat
def k0_dev27 (d0 : Dev nD) : Nat :=
  let c0_i32_470 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_469 : BitVec 32 := 8#32
  let v589 : BitVec 32 := Scalar.muli v2 c8_i32_469
  let v590 : BitVec 32 := Scalar.addi c0_i32_470 v589
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_471 : BitVec 32 := 4#32
  let v591 : BitVec 32 := Scalar.muli v5 c4_i32_471
  let v592 : BitVec 32 := Scalar.addi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_472 : BitVec 32 := 1#32
  let v593 : BitVec 32 := Scalar.muli v21 c1_i32_472
  let v594 : BitVec 32 := Scalar.addi v592 v593
  v594.toNat
def k0_dev28 (d0 : Dev nD) : Nat :=
  let c0_i32_495 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_494 : BitVec 32 := 8#32
  let v620 : BitVec 32 := Scalar.muli v23 c8_i32_494
  let v621 : BitVec 32 := Scalar.addi c0_i32_495 v620
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_496 : BitVec 32 := 4#32
  let v622 : BitVec 32 := Scalar.muli v5 c4_i32_496
  let v623 : BitVec 32 := Scalar.addi v621 v622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_497 : BitVec 32 := 1#32
  let v624 : BitVec 32 := Scalar.muli v8 c1_i32_497
  let v625 : BitVec 32 := Scalar.addi v623 v624
  v625.toNat
def k0_dev29 (d0 : Dev nD) : Nat :=
  let c0_i32_505 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_504 : BitVec 32 := 8#32
  let v632 : BitVec 32 := Scalar.muli v2 c8_i32_504
  let v633 : BitVec 32 := Scalar.addi c0_i32_505 v632
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_506 : BitVec 32 := 4#32
  let v634 : BitVec 32 := Scalar.muli v5 c4_i32_506
  let v635 : BitVec 32 := Scalar.addi v633 v634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_507 : BitVec 32 := 1#32
  let v636 : BitVec 32 := Scalar.muli v21 c1_i32_507
  let v637 : BitVec 32 := Scalar.addi v635 v636
  v637.toNat
def k0_dev30 (d0 : Dev nD) : Nat :=
  let c0_i32_530 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_529 : BitVec 32 := 8#32
  let v663 : BitVec 32 := Scalar.muli v23 c8_i32_529
  let v664 : BitVec 32 := Scalar.addi c0_i32_530 v663
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_531 : BitVec 32 := 4#32
  let v665 : BitVec 32 := Scalar.muli v5 c4_i32_531
  let v666 : BitVec 32 := Scalar.addi v664 v665
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_532 : BitVec 32 := 1#32
  let v667 : BitVec 32 := Scalar.muli v8 c1_i32_532
  let v668 : BitVec 32 := Scalar.addi v666 v667
  v668.toNat
def k0_dev31 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v675 : BitVec 32 := Scalar.muli v2 c8_i32_539
  let v676 : BitVec 32 := Scalar.addi c0_i32_540 v675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_541 : BitVec 32 := 4#32
  let v677 : BitVec 32 := Scalar.muli v5 c4_i32_541
  let v678 : BitVec 32 := Scalar.addi v676 v677
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_542 : BitVec 32 := 1#32
  let v679 : BitVec 32 := Scalar.muli v21 c1_i32_542
  let v680 : BitVec 32 := Scalar.addi v678 v679
  v680.toNat
def k0_dev32 (d0 : Dev nD) : Nat :=
  let c0_i32_565 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_564 : BitVec 32 := 8#32
  let v706 : BitVec 32 := Scalar.muli v2 c8_i32_564
  let v707 : BitVec 32 := Scalar.addi c0_i32_565 v706
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_566 : BitVec 32 := 4#32
  let v708 : BitVec 32 := Scalar.muli v5 c4_i32_566
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_567 : BitVec 32 := 1#32
  let v710 : BitVec 32 := Scalar.muli v21 c1_i32_567
  let v711 : BitVec 32 := Scalar.addi v709 v710
  v711.toNat
def k0_off5 (d0 : Dev nD) (c0_i32_573 : BitVec 32) : Fin 2 → Nat :=
  let c2_i32_13 : BitVec 32 := 2#32
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.subi c1_i32_12 v2
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_572 : BitVec 32 := 512#32
  let v718 : BitVec 32 := Scalar.muli v28 c512_i32_572
  let v719 : BitVec 32 := Scalar.addi v718 c0_i32_573
  let v720 : Index := Scalar.indexCast v719
  let c0_574 : Index := 0#32
  ![v720.toNat, 0]
def k0_off6 (d0 : Dev nD) (c0_i32_589 : BitVec 32) : Fin 2 → Nat :=
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v29 : BitVec 32 := Scalar.muli c2_i32_14 v2
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.subi c1_i32_15 v18
  let v31 : BitVec 32 := Scalar.addi v29 v30
  let c512_i32_588 : BitVec 32 := 512#32
  let v737 : BitVec 32 := Scalar.muli v31 c512_i32_588
  let v738 : BitVec 32 := Scalar.addi v737 c0_i32_589
  let v739 : Index := Scalar.indexCast v738
  let c0_590 : Index := 0#32
  ![v739.toNat, 0]
def k0_dev33 (d0 : Dev nD) : Nat :=
  let c0_i32_623 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_622 : BitVec 32 := 8#32
  let v775 : BitVec 32 := Scalar.muli v23 c8_i32_622
  let v776 : BitVec 32 := Scalar.addi c0_i32_623 v775
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_624 : BitVec 32 := 4#32
  let v777 : BitVec 32 := Scalar.muli v5 c4_i32_624
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_625 : BitVec 32 := 1#32
  let v779 : BitVec 32 := Scalar.muli v8 c1_i32_625
  let v780 : BitVec 32 := Scalar.addi v778 v779
  v780.toNat
def k0_dev34 (d0 : Dev nD) : Nat :=
  let c0_i32_649 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_648 : BitVec 32 := 8#32
  let v806 : BitVec 32 := Scalar.muli v2 c8_i32_648
  let v807 : BitVec 32 := Scalar.addi c0_i32_649 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_650 : BitVec 32 := 4#32
  let v808 : BitVec 32 := Scalar.muli v5 c4_i32_650
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_651 : BitVec 32 := 1#32
  let v810 : BitVec 32 := Scalar.muli v21 c1_i32_651
  let v811 : BitVec 32 := Scalar.addi v809 v810
  v811.toNat
def k0_dev35 (d0 : Dev nD) : Nat :=
  let c0_i32_707 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_706 : BitVec 32 := 8#32
  let v875 : BitVec 32 := Scalar.muli v23 c8_i32_706
  let v876 : BitVec 32 := Scalar.addi c0_i32_707 v875
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_708 : BitVec 32 := 4#32
  let v877 : BitVec 32 := Scalar.muli v5 c4_i32_708
  let v878 : BitVec 32 := Scalar.addi v876 v877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_709 : BitVec 32 := 1#32
  let v879 : BitVec 32 := Scalar.muli v8 c1_i32_709
  let v880 : BitVec 32 := Scalar.addi v878 v879
  v880.toNat
def k0_off7 (d0 : Dev nD) (c256_i32_859 : BitVec 32) : Fin 2 → Nat :=
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let v33 : BitVec 32 := Scalar.muli c2_i32_17 v32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_18 v18
  let v35 : BitVec 32 := Scalar.addi v33 v34
  let c512_i32_858 : BitVec 32 := 512#32
  let v1058 : BitVec 32 := Scalar.muli v35 c512_i32_858
  let v1059 : BitVec 32 := Scalar.addi v1058 c256_i32_859
  let v1060 : Index := Scalar.indexCast v1059
  let c0_860 : Index := 0#32
  ![v1060.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shape.lean ====
/-
The program of one device, written as loops.

The printed body is a straight line of about 250 memory operations. It is here written once more with the
operations of one kind collected into families indexed by the number of the piece they handle (a piece is 64 rows of
512 columns), and the lines of one phase collected into a loop over those numbers. `body_eq` states that the printed
body is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- A program of one core. -/
abbrev PG (F : FTy → Type) (α : Type) := Prog (TpuEff nD τ sig (Elt F) Λ₀ .tc) α

/-- The programs `f i` for `i` through the list `l`, one after the other. -/
def seqF {ι : Type} (l : List ι) (f : ι → PG F PUnit) : PG F PUnit :=
  match l with
  | [] => pure ⟨⟩
  | i :: l => f i >>= fun _ => seqF l f

/-! ## Buffers -/

abbrev xM : Memref sig .tc .vmem S1x2048x1024 .f32 := Memref.whole cc0_stg0_0
abbrev oM : Memref sig .tc .vmem S2048x512 .f32 := Memref.whole cc0_stg1_0
/-- Landing places: from the device across `y` (two buffers), then from the neighbours across `x` and `z`, first and
    second hop. -/
abbrev ryM : Memref sig .tc .vmem S512x512 .f32 := Memref.whole cc0_scratch0
abbrev reM : Memref sig .tc .vmem S256x512 .f32 := Memref.whole cc0_scratch1
abbrev rxM : Memref sig .tc .vmem S512x512 .f32 := Memref.whole cc0_scratch2
abbrev rzM : Memref sig .tc .vmem S512x512 .f32 := Memref.whole cc0_scratch3
abbrev bxM : Memref sig .tc .vmem S128x512 .f32 := Memref.whole cc0_scratch4
abbrev bzM : Memref sig .tc .vmem S128x512 .f32 := Memref.whole cc0_scratch5
/-- The two places a device collects what it sends. -/
abbrev stM : Memref sig .tc .vmem S512x512 .f32 := Memref.whole cc0_scratch6
abbrev seM : Memref sig .tc .vmem S256x512 .f32 := Memref.whole cc0_scratch7

theorem inb8 : ∀ (k : Fin 8) (a : Fin 2), (![64 * k.val, 0] : Fin 2 → Nat) a + S64x512.size a ≤ S512x512.size a := by decide
theorem inb4 : ∀ (k : Fin 4) (a : Fin 2), (![64 * k.val, 0] : Fin 2 → Nat) a + S64x512.size a ≤ S256x512.size a := by decide
theorem inb2 : ∀ (k : Fin 2) (a : Fin 2), (![64 * k.val, 0] : Fin 2 → Nat) a + S64x512.size a ≤ S128x512.size a := by decide

abbrev r8 (k : Fin 8) : Rect S512x512 := Rect.unit (s := S512x512) ![64 * k.val, 0] S64x512.size (inb8 k)
abbrev r4 (k : Fin 4) : Rect S256x512 := Rect.unit (s := S256x512) ![64 * k.val, 0] S64x512.size (inb4 k)
abbrev r2 (k : Fin 2) : Rect S128x512 := Rect.unit (s := S128x512) ![64 * k.val, 0] S64x512.size (inb2 k)

/-- Piece `k` of a buffer of eight, four, two pieces. -/
abbrev p8 (M : Memref sig .tc .vmem S512x512 .f32) (k : Fin 8) : Memref sig .tc .vmem S64x512 .f32 := M.slice (r8 k) (fun _ => rfl)
abbrev p4 (M : Memref sig .tc .vmem S256x512 .f32) (k : Fin 4) : Memref sig .tc .vmem S64x512 .f32 := M.slice (r4 k) (fun _ => rfl)
abbrev p2 (M : Memref sig .tc .vmem S128x512 .f32) (k : Fin 2) : Memref sig .tc .vmem S64x512 .f32 := M.slice (r2 k) (fun _ => rfl)

/-- The pieces of the input a device on `d` collects: eight of its own share of the rows, and four more. -/
abbrev xq (d : Dev nD) (k : Fin 8) : Memref sig .tc .vmem S64x512 .f32 :=
  (xM.slice (Rect.unit (s := S1x2048x1024) (k0_off1 d (BitVec.ofNat 32 (64 * k.val))) S1x64x512.size (k0_off1_inb d k)) (fun _ => rfl)).squeeze
    S64x512 squeezes_S1x64x512_S64x512
abbrev xe (d : Dev nD) (k : Fin 4) : Memref sig .tc .vmem S64x512 .f32 :=
  (xM.slice (Rect.unit (s := S1x2048x1024) (k0_off2 d (BitVec.ofNat 32 (256 + 64 * k.val))) S1x64x512.size (k0_off2_inb d k)) (fun _ => rfl)).squeeze
    S64x512 squeezes_S1x64x512_S64x512
/-- The columns of the input the device on `d` is to return. -/
abbrev xo (d : Dev nD) : Memref sig .tc .vmem S2048x512 .f32 :=
  (xM.slice (Rect.unit (s := S1x2048x1024) (k0_off3 d) S1x2048x512.size (k0_off3_inb d)) (fun _ => rfl)).squeeze S2048x512 squeezes_S1x2048x512_S2048x512

/-! ## Semaphores -/

theorem sinb8 : ∀ (k : Fin 8) (a : Fin 1), (![k.val] : Fin 1 → Nat) a + S1.size a ≤ S8.size a := by decide
theorem sinb4 : ∀ (k : Fin 4) (a : Fin 1), (![k.val] : Fin 1 → Nat) a + S1.size a ≤ S4.size a := by decide
theorem sinb2 : ∀ (k : Fin 2) (a : Fin 1), (![k.val] : Fin 1 → Nat) a + S1.size a ≤ S2.size a := by decide
abbrev s8 (A : DmaSems sig S8) (k : Fin 8) : DmaSem sig := ((A.slice (Rect.unit (s := S8) ![k.val] S1.size (sinb8 k))).squeeze S_ squeezes_S1_S_).sem
abbrev s4 (A : DmaSems sig S4) (k : Fin 4) : DmaSem sig := ((A.slice (Rect.unit (s := S4) ![k.val] S1.size (sinb4 k))).squeeze S_ squeezes_S1_S_).sem
abbrev s2 (A : DmaSems sig S2) (k : Fin 2) : DmaSem sig := ((A.slice (Rect.unit (s := S2) ![k.val] S1.size (sinb2 k))).squeeze S_ squeezes_S1_S_).sem
abbrev barS : Sem sig := (SemArray.scalar (sig.barrier 0 rfl) : Sems sig S_).sem

/-- The transfer cells of a device, named by what completes on them: `lo`, `st`, `se` its own copies; `ys`, `yr` (sent,
    received) the pieces across `y`, `es`, `er` the four further ones; `xs`, `xr` and `zs`, `zr` the first hop across
    `x` and `z`; `as`, `ar` and `cs`, `cr` the second hop across `x` and `z`. -/
inductive CI where
  | lo | st (k : Fin 8) | se (k : Fin 4) | ys (k : Fin 8) | yr (k : Fin 8) | es (k : Fin 4) | er (k : Fin 4)
  | xs (k : Fin 8) | xr (k : Fin 8) | zs (k : Fin 8) | zr (k : Fin 8) | as (k : Fin 2) | ar (k : Fin 2) | cs (k : Fin 2) | cr (k : Fin 2)
deriving DecidableEq

/-- The cells family by family. -/
abbrev CS : Type := Unit ⊕ Fin 8 ⊕ Fin 4 ⊕ Fin 8 ⊕ Fin 8 ⊕ Fin 4 ⊕ Fin 4 ⊕ Fin 8 ⊕ Fin 8 ⊕ Fin 8 ⊕ Fin 8 ⊕ Fin 2 ⊕ Fin 2 ⊕ Fin 2 ⊕ Fin 2
def CI.ofSum : CS → CI
  | .inl _ => .lo
  | .inr (.inl k) => .st k
  | .inr (.inr (.inl k)) => .se k
  | .inr (.inr (.inr (.inl k))) => .ys k
  | .inr (.inr (.inr (.inr (.inl k)))) => .yr k
  | .inr (.inr (.inr (.inr (.inr (.inl k))))) => .es k
  | .inr (.inr (.inr (.inr (.inr (.inr (.inl k)))))) => .er k
  | .inr (.inr (.inr (.inr (.inr (.inr (.inr (.inl k))))))) => .xs k
  | .inr (.inr (.inr (.inr (.inr (.inr (.inr (.inr (.inl k)))))))) => .xr k
  | .inr (.inr (.inr (.inr (.inr (.inr (.inr (.inr (.inr (.inl k))))))))) => .zs k
  | .inr (.inr (.inr (.inr (.inr (.inr (.inr (.inr (.inr (.inr (.inl k)))))))))) => .zr k
  | .inr (.inr (.inr (.inr (.inr (.inr (.inr (.inr (.inr (.inr (.inr (.inl k))))))))))) => .as k
  | .inr (.inr (.inr (.inr (.inr (.inr (.inr (.inr (.inr (.inr (.inr (.inr (.inl k)))))))))))) => .ar k
  | .inr (.inr (.inr (.inr (.inr (.inr (.inr (.inr (.inr (.inr (.inr (.inr (.inr (.inl k))))))))))))) => .cs k
  | .inr (.inr (.inr (.inr (.inr (.inr (.inr (.inr (.inr (.inr (.inr (.inr (.inr (.inr k))))))))))))) => .cr k
def CI.toSum : CI → CS
  | .lo => .inl ()
  | .st k => .inr (.inl k)
  | .se k => .inr (.inr (.inl k))
  | .ys k => .inr (.inr (.inr (.inl k)))
  | .yr k => .inr (.inr (.inr (.inr (.inl k))))
  | .es k => .inr (.inr (.inr (.inr (.inr (.inl k)))))
  | .er k => .inr (.inr (.inr (.inr (.inr (.inr (.inl k))))))
  | .xs k => .inr (.inr (.inr (.inr (.inr (.inr (.inr (.inl k)))))))
  | .xr k => .inr (.inr (.inr (.inr (.inr (.inr (.inr (.inr (.inl k))))))))
  | .zs k => .inr (.inr (.inr (.inr (.inr (.inr (.inr (.inr (.inr (.inl k)))))))))
  | .zr k => .inr (.inr (.inr (.inr (.inr (.inr (.inr (.inr (.inr (.inr (.inl k))))))))))
  | .as k => .inr (.inr (.inr (.inr (.inr (.inr (.inr (.inr (.inr (.inr (.inr (.inl k)))))))))))
  | .ar k => .inr (.inr (.inr (.inr (.inr (.inr (.inr (.inr (.inr (.inr (.inr (.inr (.inl k))))))))))))
  | .cs k => .inr (.inr (.inr (.inr (.inr (.inr (.inr (.inr (.inr (.inr (.inr (.inr (.inr (.inl k)))))))))))))
  | .cr k => .inr (.inr (.inr (.inr (.inr (.inr (.inr (.inr (.inr (.inr (.inr (.inr (.inr (.inr k)))))))))))))
def CI.equiv : CS ≃ CI where
  toFun := CI.ofSum
  invFun := CI.toSum
  left_inv x := by rcases x with _ | x | x | x | x | x | x | x | x | x | x | x | x | x | x <;> rfl
  right_inv x := by cases x <;> rfl
instance : Fintype CI := Fintype.ofEquiv CS CI.equiv

/-- The semaphore of each. -/
def dsem : CI → DmaSem sig
  | .lo => cc0_scratch8.sem
  | .st k => s8 cc0_scratch9 k | .se k => s4 cc0_scratch10 k
  | .ys k => s8 cc0_scratch11 k | .yr k => s8 cc0_scratch12 k | .es k => s4 cc0_scratch13 k | .er k => s4 cc0_scratch14 k
  | .xs k => s8 cc0_scratch15 k | .xr k => s8 cc0_scratch16 k | .zs k => s8 cc0_scratch17 k | .zr k => s8 cc0_scratch18 k
  | .as k => s2 cc0_scratch19 k | .ar k => s2 cc0_scratch20 k | .cs k => s2 cc0_scratch21 k | .cr k => s2 cc0_scratch22 k

/-! ## Devices addressed -/

/-- The device across `y`, as each of the eight and the four transfers to it computes it. -/
def dY (d : Dev nD) (k : Fin 8) : Dev nD := match k with
  | 0 => ⟨k0_dev4 d, k0_dev4_lt d⟩ | 1 => ⟨k0_dev5 d, k0_dev5_lt d⟩ | 2 => ⟨k0_dev6 d, k0_dev6_lt d⟩ | 3 => ⟨k0_dev7 d, k0_dev7_lt d⟩
  | 4 => ⟨k0_dev8 d, k0_dev8_lt d⟩ | 5 => ⟨k0_dev9 d, k0_dev9_lt d⟩ | 6 => ⟨k0_dev10 d, k0_dev10_lt d⟩ | 7 => ⟨k0_dev11 d, k0_dev11_lt d⟩
def dE (d : Dev nD) (k : Fin 4) : Dev nD := match k with
  | 0 => ⟨k0_dev12 d, k0_dev12_lt d⟩ | 1 => ⟨k0_dev13 d, k0_dev13_lt d⟩ | 2 => ⟨k0_dev14 d, k0_dev14_lt d⟩ | 3 => ⟨k0_dev15 d, k0_dev15_lt d⟩
/-- The neighbours across `x` and across `z`, as the transfers of the first and of the second hop compute them. -/
def dX (d : Dev nD) (k : Fin 8) : Dev nD := match k with
  | 0 => ⟨k0_dev16 d, k0_dev16_lt d⟩ | 1 => ⟨k0_dev18 d, k0_dev18_lt d⟩ | 2 => ⟨k0_dev20 d, k0_dev20_lt d⟩ | 3 => ⟨k0_dev22 d, k0_dev22_lt d⟩
  | 4 => ⟨k0_dev24 d, k0_dev24_lt d⟩ | 5 => ⟨k0_dev26 d, k0_dev26_lt d⟩ | 6 => ⟨k0_dev28 d, k0_dev28_lt d⟩ | 7 => ⟨k0_dev30 d, k0_dev30_lt d⟩
def dZ (d : Dev nD) (k : Fin 8) : Dev nD := match k with
  | 0 => ⟨k0_dev17 d, k0_dev17_lt d⟩ | 1 => ⟨k0_dev19 d, k0_dev19_lt d⟩ | 2 => ⟨k0_dev21 d, k0_dev21_lt d⟩ | 3 => ⟨k0_dev23 d, k0_dev23_lt d⟩
  | 4 => ⟨k0_dev25 d, k0_dev25_lt d⟩ | 5 => ⟨k0_dev27 d, k0_dev27_lt d⟩ | 6 => ⟨k0_dev29 d, k0_dev29_lt d⟩ | 7 => ⟨k0_dev31 d, k0_dev31_lt d⟩
def dC (d : Dev nD) (k : Fin 2) : Dev nD := match k with
  | 0 => ⟨k0_dev32 d, k0_dev32_lt d⟩ | 1 => ⟨k0_dev34 d, k0_dev34_lt d⟩
def dA (d : Dev nD) (k : Fin 2) : Dev nD := match k with
  | 0 => ⟨k0_dev33 d, k0_dev33_lt d⟩ | 1 => ⟨k0_dev35 d, k0_dev35_lt d⟩

/-! ## Operations -/

/-- A copy within the device of a piece of the input; completes on `s`. -/
abbrev cpy (src : Memref sig .tc .vmem S64x512 .f32) (hs : src.view.WordExact) (dst : Memref sig .tc .vmem S64x512 .f32) (hd : dst.view.WordExact)
    (s : DmaSem sig) : PG F PUnit :=
  Prog.lift (.enqueueDma src (.here dst) (.dma s) hs hd ⟨Or.inl rfl, trivial⟩)

/-- A transfer of a piece to the device `n`; completes on `s` here and on `s'` there. -/
abbrev snd (src dst : Memref sig .tc .vmem S64x512 .f32) (hs : src.view.WordExact) (hd : dst.view.WordExact) (h : dst.view.ref.isScScratch = false)
    (n : Dev nD) (s s' : DmaSem sig) : PG F PUnit :=
  Prog.lift (.enqueueDma src (.remote (Dev.tc n) dst (.dma s) h) (.dma s') hs hd ⟨⟨rfl, Or.inl rfl⟩, trivial⟩)

/-- A wait for a piece on `s`. -/
abbrev wt (s : DmaSem sig) (src dst : Memref sig .tc .vmem S64x512 .f32) (hs : src.view.WordExact) (hd : dst.view.WordExact) : PG F PUnit :=
  Prog.lift (.waitDma2 s src dst hs hd)

/-- Adding the piece of `B` that starts at `b` into the rows of the result that start at `o`. -/
abbrev addInto {sz : Fin 2 → Nat} (o : Fin 2 → Nat) (ho : ∀ a, o a + S64x512.size a ≤ S2048x512.size a) (B : Memref sig .tc .vmem ⟨2, sz⟩ .f32)
    (b : Fin 2 → Nat) (hb : ∀ a, b a + S64x512.size a ≤ sz a) : PG F PUnit := do
  let v : Vec F S64x512 .f32 ← Prog.lift (.load oM (Rect.unit (s := S2048x512) o S64x512.size ho).toLoadRect (View.loadsAt_vmem h_S64x512))
  let w : Vec F S64x512 .f32 ← Prog.lift (.load B (Rect.unit (s := ⟨2, sz⟩) b S64x512.size hb).toLoadRect (View.loadsAt_vmem h_S64x512))
  let u : Vec F S64x512 .f32 ← Prog.lift (.load oM (Rect.unit (s := S2048x512) o S64x512.size ho).toLoadRect (View.loadsAt_vmem h_S64x512))
  Prog.lift (.store oM (Rect.unit (s := S2048x512) o S64x512.size ho) (k0_pay1 v w) Finset.univ (View.stores_vmem_bits_univ h_S64x512 rfl) (.inl rfl))

/-- The row blocks of the result: the device's own quarter of the rows, its `x` neighbour's, its `z` neighbour's, the last. -/
abbrev addQ (d : Dev nD) (M : Memref sig .tc .vmem S512x512 .f32) (k : Fin 8) : PG F PUnit :=
  addInto (k0_off4 d (BitVec.ofNat 32 (64 * k.val))) (k0_off4_inb d k) M ![64 * k.val, 0] (inb8 k)
abbrev addX (d : Dev nD) (M : Memref sig .tc .vmem S512x512 .f32) (k : Fin 8) : PG F PUnit :=
  addInto (k0_off5 d (BitVec.ofNat 32 (64 * k.val))) (k0_off5_inb d k) M ![64 * k.val, 0] (inb8 k)
abbrev addZ (d : Dev nD) (M : Memref sig .tc .vmem S512x512 .f32) (k : Fin 8) : PG F PUnit :=
  addInto (k0_off6 d (BitVec.ofNat 32 (64 * k.val))) (k0_off6_inb d k) M ![64 * k.val, 0] (inb8 k)
abbrev addG {sz : Fin 2 → Nat} (d : Dev nD) (r : Fin 8) (B : Memref sig .tc .vmem ⟨2, sz⟩ .f32) (b : Fin 2 → Nat)
    (hb : ∀ a, b a + S64x512.size a ≤ sz a) : PG F PUnit :=
  addInto (k0_off7 d (BitVec.ofNat 32 (64 * r.val))) (k0_off7_inb d r) B b hb

/-! ## The phases -/

abbrev w8 (M : Memref sig .tc .vmem S512x512 .f32) (k : Fin 8) : (p8 M k).view.WordExact := View.wordExact_bits rfl
abbrev w4 (M : Memref sig .tc .vmem S256x512 .f32) (k : Fin 4) : (p4 M k).view.WordExact := View.wordExact_bits rfl
abbrev w2 (M : Memref sig .tc .vmem S128x512 .f32) (k : Fin 2) : (p2 M k).view.WordExact := View.wordExact_bits rfl
abbrev wq (d : Dev nD) (k : Fin 8) : (xq d k).view.WordExact := (View.wordExact_bits rfl).reshape _ _
abbrev we (d : Dev nD) (k : Fin 4) : (xe d k).view.WordExact := (View.wordExact_bits rfl).reshape _ _

def l8 : List (Fin 8) := [0, 1, 2, 3, 4, 5, 6, 7]
def l4 : List (Fin 4) := [0, 1, 2, 3]
def l2 : List (Fin 2) := [0, 1]

/-- Piece `2 k`, `2 k + 1` (of the first four), `4 + k`. -/
def ev (k : Fin 2) : Fin 8 := ⟨2 * k.val, by omega⟩
def od (k : Fin 2) : Fin 8 := ⟨2 * k.val + 1, by omega⟩
def hi (k : Fin 4) : Fin 8 := ⟨4 + k.val, by omega⟩

/-- The device collects what it sends, and copies its own columns into the result. -/
def collect (d : Dev nD) (k : Fin 8) : PG F PUnit := cpy (xq d k) (wq d k) (p8 stM k) (w8 stM k) (dsem (.st k))
def collectE (d : Dev nD) (k : Fin 4) : PG F PUnit := cpy (xe d k) (we d k) (p4 seM k) (w4 seM k) (dsem (.se k))
def own (d : Dev nD) : PG F PUnit :=
  Prog.lift (.enqueueDma (xo d) (.here oM) (.dma (dsem .lo)) ((View.wordExact_bits rfl).reshape _ _) (Memref.isWhole_whole cc0_stg1_0).wordExact ⟨Or.inl rfl, trivial⟩)
def ownWait (d : Dev nD) : PG F PUnit :=
  Prog.lift (.waitDma2 (dsem .lo) (xo d) oM ((View.wordExact_bits rfl).reshape _ _) (Memref.isWhole_whole cc0_stg1_0).wordExact)
/-- The three neighbours are told that the device has entered, and the same is awaited of them. -/
def enter (d : Dev nD) : PG F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32
/-- The collected pieces go across `y`. -/
def sendY (d : Dev nD) (k : Fin 8) : PG F PUnit := do
  wt (dsem (.st k)) (xq d k) (p8 stM k) (wq d k) (w8 stM k)
  snd (p8 stM k) (p8 ryM k) (w8 stM k) (w8 ryM k) rfl (dY d k) (dsem (.ys k)) (dsem (.yr k))
def sendE (d : Dev nD) (k : Fin 4) : PG F PUnit := do
  wt (dsem (.se k)) (xe d k) (p4 seM k) (we d k) (w4 seM k)
  snd (p4 seM k) (p4 reM k) (w4 seM k) (w4 reM k) rfl (dE d k) (dsem (.es k)) (dsem (.er k))
/-- A piece from across `y` is passed on to both other neighbours and added. -/
def relay (d : Dev nD) (k : Fin 8) : PG F PUnit := do
  wt (dsem (.yr k)) (p8 stM k) (p8 ryM k) (w8 stM k) (w8 ryM k)
  snd (p8 ryM k) (p8 rxM k) (w8 ryM k) (w8 rxM k) rfl (dX d k) (dsem (.xs k)) (dsem (.xr k))
  snd (p8 ryM k) (p8 rzM k) (w8 ryM k) (w8 rzM k) rfl (dZ d k) (dsem (.zs k)) (dsem (.zr k))
  addQ d ryM k
/-- The waits for a piece of the first hop. -/
def waitX (k : Fin 8) : PG F PUnit := wt (dsem (.xr k)) (p8 ryM k) (p8 rxM k) (w8 ryM k) (w8 rxM k)
def waitZ (k : Fin 8) : PG F PUnit := wt (dsem (.zr k)) (p8 ryM k) (p8 rzM k) (w8 ryM k) (w8 rzM k)
/-- The pieces `2 k` and `2 k + 1` of the first hop: the one of `x` goes on across `z`, the one of `z` on across `x`. -/
def hop (d : Dev nD) (k : Fin 2) : PG F PUnit := do
  waitX (ev k)
  snd (p8 rxM (ev k)) (p2 bzM k) (w8 rxM (ev k)) (w2 bzM k) rfl (dC d k) (dsem (.cs k)) (dsem (.cr k))
  addX d rxM (ev k)
  waitZ (ev k)
  addZ d rzM (ev k)
  waitX (od k)
  addX d rxM (od k)
  waitZ (od k)
  snd (p8 rzM (od k)) (p2 bxM k) (w8 rzM (od k)) (w2 bxM k) rfl (dA d k) (dsem (.as k)) (dsem (.ar k))
  addZ d rzM (od k)
def hopHi (d : Dev nD) (k : Fin 4) : PG F PUnit := do
  waitX (hi k)
  addX d rxM (hi k)
  waitZ (hi k)
  addZ d rzM (hi k)
/-- The pieces of the last quarter: straight from across `y`, and of the second hop. -/
def lastE (d : Dev nD) (k : Fin 4) : PG F PUnit := do
  wt (dsem (.er k)) (p4 seM k) (p4 reM k) (w4 seM k) (w4 reM k)
  addG d (hi k) reM ![64 * k.val, 0] (inb4 k)
def lastX (d : Dev nD) (k : Fin 2) : PG F PUnit := do
  wt (dsem (.ar k)) (p8 rzM (od k)) (p2 bxM k) (w8 rzM (od k)) (w2 bxM k)
  addG d (od k) bxM ![64 * k.val, 0] (inb2 k)
def lastZ (d : Dev nD) (k : Fin 2) : PG F PUnit := do
  wt (dsem (.cr k)) (p8 rxM (ev k)) (p2 bzM k) (w8 rxM (ev k)) (w2 bzM k)
  addG d (ev k) bzM ![64 * k.val, 0] (inb2 k)
/-- The waits for the device's own sends. -/
def sent (k : Fin 8) : PG F PUnit := do
  wt (dsem (.ys k)) (p8 ryM k) (p8 stM k) (w8 ryM k) (w8 stM k)
  wt (dsem (.xs k)) (p8 rxM k) (p8 ryM k) (w8 rxM k) (w8 ryM k)
  wt (dsem (.zs k)) (p8 rzM k) (p8 ryM k) (w8 rzM k) (w8 ryM k)
def sentE (k : Fin 4) : PG F PUnit := wt (dsem (.es k)) (p4 reM k) (p4 seM k) (w4 reM k) (w4 seM k)
def sentA (k : Fin 2) : PG F PUnit := wt (dsem (.as k)) (p2 bxM k) (p8 rzM (od k)) (w2 bxM k) (w8 rzM (od k))
def sentC (k : Fin 2) : PG F PUnit := wt (dsem (.cs k)) (p2 bzM k) (p8 rxM (ev k)) (w2 bzM k) (w8 rxM (ev k))

/-- The program of the device `d`. -/
def device (d : Dev nD) : PG F PUnit := do
  seqF l8 (collect d)
  seqF l4 (collectE d)
  own d
  enter d
  seqF l8 (sendY d)
  seqF l4 (sendE d)
  ownWait d
  seqF l8 (relay d)
  seqF l2 (hop d)
  seqF l4 (hopHi d)
  seqF l4 (lastE d)
  seqF l2 (lastX d)
  seqF l2 (lastZ d)
  seqF l8 sent
  seqF l4 sentE
  seqF l2 sentA
  seqF l2 sentC

end Cert.AllReduce

end
-- ==== Proof.Sched.lean ====
/-
The protocol.

Every semaphore the program uses is a cell with one round. A transfer's cell has one duty, worth the transfer's size: at
the sender it gives back what was read, at the receiver it gives the landed piece. The entry semaphore has three duties,
one of each neighbour, and each hands over the places of that neighbour's buffers the device will write. The cells are
ordered by levels, so that a device waits only for cells below those it still owes.
-/
module

public import proofs.«01_k».proof.Proof.Shape
public import Idealize.ShloMosaic.Lib.Transfers

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The mesh -/

/-- The device across `y`, across `x`, and the neighbour across `z` (in the same pair of `z`). -/
def peer (c : Dev nD) : Dev nD := ⟨if c.val / 4 % 2 = 0 then c.val + 4 else c.val - 4, by have : c.val < 16 := c.isLt; show _ < 16; split <;> omega⟩
def xp (c : Dev nD) : Dev nD := ⟨if c.val / 8 = 0 then c.val + 8 else c.val - 8, by have : c.val < 16 := c.isLt; show _ < 16; split <;> omega⟩
def zp (c : Dev nD) : Dev nD := ⟨if c.val % 2 = 0 then c.val + 1 else c.val - 1, by have : c.val < 16 := c.isLt; show _ < 16; split <;> omega⟩

theorem peer_peer (c : Dev nD) : peer (peer c) = c := by revert c; decide
theorem xp_xp (c : Dev nD) : xp (xp c) = c := by revert c; decide
theorem zp_zp (c : Dev nD) : zp (zp c) = c := by revert c; decide

/-- The numbers the program computes for the devices it addresses. -/
theorem dev1_eq (c : Dev nD) : (⟨k0_dev1 c, k0_dev1_lt c⟩ : Dev nD) = peer c := by revert c; decide
theorem dev2_eq (c : Dev nD) : (⟨k0_dev2 c, k0_dev2_lt c⟩ : Dev nD) = xp c := by revert c; decide
theorem dev3_eq (c : Dev nD) : (⟨k0_dev3 c, k0_dev3_lt c⟩ : Dev nD) = zp c := by revert c; decide
theorem dY_eq (c : Dev nD) (k : Fin 8) : dY c k = peer c := by revert c k; decide
theorem dE_eq (c : Dev nD) (k : Fin 4) : dE c k = peer c := by revert c k; decide
theorem dX_eq (c : Dev nD) (k : Fin 8) : dX c k = xp c := by revert c k; decide
theorem dZ_eq (c : Dev nD) (k : Fin 8) : dZ c k = zp c := by revert c k; decide
theorem dC_eq (c : Dev nD) (k : Fin 2) : dC c k = zp c := by revert c k; decide
theorem dA_eq (c : Dev nD) (k : Fin 2) : dA c k = xp c := by revert c k; decide

/-! ## Cells -/

theorem dsem_injective : Function.Injective dsem := by
  have h : ∀ a b : CI, dsem a = dsem b → a = b := by decide +kernel
  exact fun a b => h a b

/-- The cells of one device: the entry semaphore and the transfers'. -/
abbrev KI : Type := Unit ⊕ CI
def csem : KI → SemLoc sig
  | .inl _ => .reg barS
  | .inr k => .dma (dsem k)
abbrev kcell (ck : Dev nD × KI) : GSem nD τ sig := ((ck.1 : Thread nD τ), csem ck.2)
abbrev dcell (c : Dev nD) (k : CI) : GSem nD τ sig := ((c : Thread nD τ), .dma (dsem k))
abbrev barCell (c : Dev nD) : GSem nD τ sig := ((c : Thread nD τ), .reg barS)

theorem csem_injective : Function.Injective csem := by
  rintro (_ | a) (_ | b) h
  · rfl
  · exact absurd h (by simp [csem])
  · exact absurd h (by simp [csem])
  · have h' : dsem a = dsem b := by simpa [csem] using h
    rw [dsem_injective h']
theorem kcell_injective : Function.Injective (kcell : Dev nD × KI → GSem nD τ sig) := by
  rintro ⟨c, k⟩ ⟨c', k'⟩ h
  have h1 : c = c' := congrArg (fun g : GSem nD τ sig => g.1.1) h
  have h2 : k = k' := csem_injective (congrArg Prod.snd h)
  rw [h1, h2]

open Classical in
/-- Which cell a semaphore is. -/
def idx? (s : SemLoc sig) : Option KI := if h : ∃ k, csem k = s then some h.choose else none
theorem idx?_csem (k : KI) : idx? (csem k) = some k := by
  unfold idx?
  have h : ∃ k', csem k' = csem k := ⟨k, rfl⟩
  rw [dif_pos h, csem_injective h.choose_spec]
theorem idx?_dma (k : CI) : idx? (.dma (dsem k)) = some (.inr k) := idx?_csem (.inr k)
theorem idx?_bar : idx? (.reg barS) = some (.inl ()) := idx?_csem (.inl ())
theorem idx?_none (s : SemLoc sig) (h : ∀ k, csem k ≠ s) : idx? s = none := by
  unfold idx?
  rw [dif_neg (fun ⟨k, hk⟩ => h k hk)]

/-- The size of a transfer: of one piece, and of the device's own columns. -/
def N : ℕ := (p8 stM 0).view.dmaCredit
def NL : ℕ := oM.view.dmaCredit
def amt : CI → ℕ
  | .lo => NL
  | _ => N
theorem amt_pos (k : CI) : 0 < amt k := by
  have h1 : 0 < N := View.dmaCredit_pos _ (by decide)
  have h2 : 0 < NL := View.dmaCredit_pos _ (by decide)
  cases k <;> first | exact h1 | exact h2

theorem cred_ry (k : Fin 8) : (p8 ryM k).view.dmaCredit = N := by rfl
theorem cred_re (k : Fin 4) : (p4 reM k).view.dmaCredit = N := by rfl
theorem cred_rx (k : Fin 8) : (p8 rxM k).view.dmaCredit = N := by rfl
theorem cred_rz (k : Fin 8) : (p8 rzM k).view.dmaCredit = N := by rfl
theorem cred_bx (k : Fin 2) : (p2 bxM k).view.dmaCredit = N := by rfl
theorem cred_bz (k : Fin 2) : (p2 bzM k).view.dmaCredit = N := by rfl
theorem cred_st (k : Fin 8) : (p8 stM k).view.dmaCredit = N := by rfl
theorem cred_se (k : Fin 4) : (p4 seM k).view.dmaCredit = N := by rfl
theorem cred_out : oM.view.dmaCredit = NL := by rfl

/-! ## Contents -/

/-- What the launch puts into the device's copy of the input. -/
def xstg (c : Dev nD) : (cc0_stg0_0 : Ref sig .tc).ty.Contents (Elt F) :=
  (win0_0.blk (0 : Fin 1)).view.read (Elt F) ((s₀ m ρ).mem ((c : Thread nD τ).loc main_arg0))

/-- The pieces the device collects, and its own columns. -/
def stV (c : Dev nD) (k : Fin 8) : Vec F S64x512 .f32 := (xq c k).view.read (Elt F) (xstg m ρ c)
def seV (c : Dev nD) (k : Fin 4) : Vec F S64x512 .f32 := (xe c k).view.read (Elt F) (xstg m ρ c)
def outV (c : Dev nD) : (cc0_stg1_0 : Ref sig .tc).ty.Contents (Elt F) := (xo c).view.read (Elt F) (xstg m ρ c)

/-- A place holding the value `X` (at the share `q`), and a place free to be written. -/
def pv {s : Shape} (c : Dev nD) (M : Memref sig .tc .vmem s .f32) (q : PosShare TreeShare) (X : Vec F s .f32) : sProp 𝕄 :=
  M.view.loc (c : Thread nD τ) ↦[M.view.set]{q} M.view.write (Elt F) (m (M.view.loc (c : Thread nD τ))) X Finset.univ
def fr {s : Shape} (c : Dev nD) (M : Memref sig .tc .vmem s .f32) : sProp 𝕄 :=
  iprop(∃ f : Buf (Elt F) (M.view.loc (c : Thread nD τ)), M.view.loc (c : Thread nD τ) ↦[M.view.set]{fullShare} f)

instance pv_storable {s : Shape} (c : Dev nD) (M : Memref sig .tc .vmem s .f32) (q) (X : Vec F s .f32) : BI.Storable (upEmb : UEmb _ 𝕄) (pv m c M q X) := by
  unfold pv; infer_instance
instance fr_storable {s : Shape} (c : Dev nD) (M : Memref sig .tc .vmem s .f32) : BI.Storable (upEmb : UEmb _ 𝕄) (fr (F := F) c M) := by
  unfold fr; infer_instance

/-- Shares of the input: of the eight pieces, of the four, of the device's own columns; -/
abbrev shQ (k : Fin 8) : PosShare TreeShare := shareTok fullShare.left 8 k
abbrev shE (k : Fin 4) : PosShare TreeShare := shareTok fullShare.right 4 k
abbrev shO : PosShare TreeShare := shareDrop fullShare.right 4
/-- of a piece that is passed on to one or two neighbours. -/
abbrev sh1 : PosShare TreeShare := fullShare.left
abbrev sh2 : PosShare TreeShare := fullShare.right.left
abbrev shK : PosShare TreeShare := fullShare.right.right

/-- The part of the input one copy reads. -/
def xpt {s : Shape} (c : Dev nD) (M : Memref sig .tc .vmem s .f32) (q : PosShare TreeShare) (f : Buf (Elt F) (M.view.loc (c : Thread nD τ))) : sProp 𝕄 :=
  M.view.loc (c : Thread nD τ) ↦[M.view.set]{q} f
instance xpt_storable {s : Shape} (c : Dev nD) (M : Memref sig .tc .vmem s .f32) (q) (f : Buf (Elt F) (M.view.loc (c : Thread nD τ))) :
    BI.Storable (upEmb : UEmb _ 𝕄) (xpt c M q f) := by
  unfold xpt; infer_instance

/-! ## The schedule -/

/-- What a transfer's cell of device `c` gives. -/
def pay (c : Dev nD) : CI → sProp 𝕄
  | .lo => iprop(xpt c oM fullShare (outV m ρ c) ∗ xpt c (xo c) shO (xstg m ρ c))
  | .st k => iprop(pv m c (p8 stM k) fullShare (stV m ρ c k) ∗ xpt c (xq c k) (shQ k) (xstg m ρ c))
  | .se k => iprop(pv m c (p4 seM k) fullShare (seV m ρ c k) ∗ xpt c (xe c k) (shE k) (xstg m ρ c))
  | .ys k => pv m c (p8 stM k) fullShare (stV m ρ c k)
  | .yr k => pv m c (p8 ryM k) fullShare (stV m ρ (peer c) k)
  | .es k => pv m c (p4 seM k) fullShare (seV m ρ c k)
  | .er k => pv m c (p4 reM k) fullShare (seV m ρ (peer c) k)
  | .xs k => pv m c (p8 ryM k) sh1 (stV m ρ (peer c) k)
  | .xr k => pv m c (p8 rxM k) fullShare (stV m ρ (peer (xp c)) k)
  | .zs k => pv m c (p8 ryM k) sh2 (stV m ρ (peer c) k)
  | .zr k => pv m c (p8 rzM k) fullShare (stV m ρ (peer (zp c)) k)
  | .as k => pv m c (p8 rzM (od k)) sh1 (stV m ρ (peer (zp c)) (od k))
  | .ar k => pv m c (p2 bxM k) fullShare (stV m ρ (peer (zp (xp c))) (od k))
  | .cs k => pv m c (p8 rxM (ev k)) sh1 (stV m ρ (peer (xp c)) (ev k))
  | .cr k => pv m c (p2 bzM k) fullShare (stV m ρ (peer (xp (zp c))) (ev k))

instance pay_storable (c : Dev nD) (k : CI) : BI.Storable (upEmb : UEmb _ 𝕄) (pay m ρ c k) := by
  cases k <;> (dsimp only [pay]; infer_instance)

/-- The places of device `n` its neighbour across `y`, across `x`, across `z` writes. -/
def room (n : Dev nD) : Fin 3 → sProp 𝕄
  | 0 => iprop(bigSep Finset.univ (fun k : Fin 8 => fr n (p8 ryM k)) ∗ bigSep Finset.univ (fun k : Fin 4 => fr n (p4 reM k)))
  | 1 => iprop(bigSep Finset.univ (fun k : Fin 8 => fr n (p8 rxM k)) ∗ bigSep Finset.univ (fun k : Fin 2 => fr n (p2 bxM k)))
  | 2 => iprop(bigSep Finset.univ (fun k : Fin 8 => fr n (p8 rzM k)) ∗ bigSep Finset.univ (fun k : Fin 2 => fr n (p2 bzM k)))

instance room_storable (n : Dev nD) (d : Fin 3) : BI.Storable (upEmb : UEmb _ 𝕄) (room (F := F) n d) := by
  match d with
  | 0 => dsimp only [room]; infer_instance
  | 1 => dsimp only [room]; infer_instance
  | 2 => dsimp only [room]; infer_instance

/-- The neighbour that pays duty `d` of a device's entry semaphore. -/
def nb (c : Dev nD) : Fin 3 → Dev nD
  | 0 => peer c | 1 => xp c | 2 => zp c

def sched : Rounds.Schedule (GSem nD τ sig) (Fin 3) 𝕄 where
  duties g r := if r = 0 ∧ g.1.2 = .tc then (match idx? g.2 with | some (.inl _) => Finset.univ | some (.inr _) => {0} | none => ∅) else ∅
  unitless _ := False
  amount g _ _ := match idx? g.2 with | some (.inr k) => amt k | _ => 1
  payload g _ d := match idx? g.2 with | some (.inl _) => room (nb g.1.1 d) d | some (.inr k) => pay m ρ g.1.1 k | none => iprop(emp)
  amount_pos g _ _ _ := by
    split
    · exact amt_pos _
    · exact Nat.one_pos

instance sched_storable (g : GSem nD τ sig) (r : ℕ) (d : Fin 3) : BI.Storable (upEmb : UEmb _ 𝕄) ((sched m ρ).payload g r d) := by
  dsimp only [sched]
  split <;> infer_instance

section
variable (c : Dev nD) (k : CI)

theorem duties_dma : (sched m ρ).duties (dcell c k) 0 = {0} := by
  dsimp only [sched]; rw [if_pos ⟨rfl, rfl⟩, idx?_dma]
theorem duties_bar : (sched m ρ).duties (barCell c) 0 = Finset.univ := by
  dsimp only [sched]; rw [if_pos ⟨rfl, rfl⟩, idx?_bar]
theorem duties_later (g : GSem nD τ sig) : ∀ r, 1 ≤ r → (sched m ρ).duties g r = ∅ :=
  fun r hr => by dsimp only [sched]; rw [if_neg fun h => by omega]
theorem amount_dma (d : Fin 3) : (sched m ρ).amount (dcell c k) 0 d = amt k := by dsimp only [sched]; rw [idx?_dma]
theorem amount_bar (d : Fin 3) : (sched m ρ).amount (barCell c) 0 d = 1 := by dsimp only [sched]; rw [idx?_bar]
theorem payload_dma (d : Fin 3) : (sched m ρ).payload (dcell c k) 0 d = pay m ρ c k := by dsimp only [sched]; rw [idx?_dma]
theorem payload_bar (d : Fin 3) : (sched m ρ).payload (barCell c) 0 d = room (nb c d) d := by dsimp only [sched]; rw [idx?_bar]
theorem expect_dma : (sched m ρ).expect (dcell c k) 0 = amt k := by
  unfold Schedule.expect Schedule.amountOf; rw [duties_dma, Finset.sum_singleton, amount_dma]
theorem expect_bar : (sched m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem rest_dma : bigSep ((sched m ρ).duties (dcell c k) 0 \ ∅) (fun d => (sched m ρ).payload (dcell c k) 0 d) = pay m ρ c k := by
  rw [Finset.sdiff_empty, duties_dma, bigSep_singleton, payload_dma]
theorem rest_bar : bigSep ((sched m ρ).duties (barCell c) 0 \ ∅) (fun d => (sched m ρ).payload (barCell c) 0 d)
    = iprop(room (peer c) 0 ∗ room (xp c) 1 ∗ room (zp c) 2) := by
  rw [Finset.sdiff_empty, duties_bar, bigSep_univ_eq_bigSepL [0, 1, 2] (by decide) (by decide), bigSepL_cons_cons, bigSepL_cons_cons, bigSepL_singleton,
    payload_bar, payload_bar, payload_bar]
  rfl
end

/-! ## What a device owes, and the levels -/

/-- The device whose cell `k` the device `c` pays. -/
def tgt (c : Dev nD) : CI → Dev nD
  | .yr _ => peer c | .er _ => peer c
  | .xr _ => xp c | .zr _ => zp c | .ar _ => xp c | .cr _ => zp c
  | _ => c

/-- What it owes of the transfers in the list `l`, the next one first. -/
def oweC (c : Dev nD) (l : List CI) : CellTallies nD τ sig Unit := (l.map fun k => tallyAt (dcell (tgt c k) k) () (amt k)).sum

/-- The transfers to other devices in the order the program starts them. -/
def lY (l : List (Fin 8)) : List CI := l.map .yr
def lE (l : List (Fin 4)) : List CI := l.map .er
def lR (l : List (Fin 8)) : List CI := l.flatMap fun k => [.xr k, .zr k]
def lH (l : List (Fin 2)) : List CI := l.flatMap fun k => [.cr k, .ar k]
abbrev lAll : List CI := lY l8 ++ (lE l4 ++ (lR l8 ++ lH l2))

/-- All of it at the start, the three neighbours' entry semaphores included. -/
def O₂ (c : Dev nD) : CellTallies nD τ sig Unit := oweC c lAll + tallyAt (barCell (zp c)) () 1
def O₁ (c : Dev nD) : CellTallies nD τ sig Unit := O₂ c + tallyAt (barCell (xp c)) () 1
def O₀ (c : Dev nD) : CellTallies nD τ sig Unit := O₁ c + tallyAt (barCell (peer c)) () 1

theorem oweC_cons (c : Dev nD) (k : CI) (l : List CI) : oweC c (k :: l) = oweC c l + tallyAt (dcell (tgt c k) k) () (amt k) := by
  unfold oweC; rw [List.map_cons, List.sum_cons, add_comm]
theorem oweC_nil (c : Dev nD) : oweC c [] = 0 := rfl

/-- Copies and sends at level 0, the entry semaphore at 1, then landings in the order they depend on one another. -/
def lvC : CI → ℕ
  | .yr _ => 2 | .er _ => 2 | .xr _ => 3 | .zr _ => 3 | .ar _ => 4 | .cr _ => 4
  | _ => 0
def lvI : Option KI → ℕ
  | some (.inl _) => 1
  | some (.inr k) => lvC k
  | none => 0
def L (g : GSem nD τ sig) : Finset Unit := if g.1.2 = .tc then {()} else ∅
def lv (g : GSem nD τ sig) (_ : Unit) : ℕ := lvI (idx? g.2)

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (k : CI) (u : Unit) : lv (dcell c k) u = lvC k := by unfold lv; rw [idx?_dma]; rfl
theorem lv_bar (c : Dev nD) (u : Unit) : lv (barCell c) u = 1 := by unfold lv; rw [idx?_bar]; rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

/-- What is owed is owed to a transfer of the list. -/
theorem oweC_pos {c : Dev nD} {l : List CI} {g : GSem nD τ sig} {u : Unit} (h : 0 < oweC c l g u) : ∃ k ∈ l, g = dcell (tgt c k) k := by
  induction l with
  | nil => exact absurd h (by rw [oweC_nil]; exact Nat.lt_irrefl 0)
  | cons k l ih =>
    rw [oweC_cons, Pi.add_apply, Finsupp.add_apply] at h
    rcases Nat.eq_zero_or_pos (oweC c l g u) with h0 | h0
    · rw [h0, Nat.zero_add] at h
      exact ⟨k, List.mem_cons_self, tally_pos h⟩
    · obtain ⟨k', hk, e⟩ := ih h0
      exact ⟨k', List.mem_cons_of_mem _ hk, e⟩
theorem O₀_pos {c : Dev nD} {g : GSem nD τ sig} {u : Unit} (h : 0 < O₀ c g u) : (∃ k ∈ lAll, g = dcell (tgt c k) k) ∨ ∃ n, g = barCell n := by
  unfold O₀ O₁ O₂ at h
  rw [Pi.add_apply, Finsupp.add_apply, Pi.add_apply, Finsupp.add_apply, Pi.add_apply, Finsupp.add_apply] at h
  rcases Nat.eq_zero_or_pos (oweC c lAll g u) with h0 | h0
  · rw [h0, Nat.zero_add] at h
    right
    rcases Nat.eq_zero_or_pos ((tallyAt (barCell (zp c)) () 1 : CellTallies nD τ sig Unit) g u) with h1 | h1
    · rw [h1, Nat.zero_add] at h
      rcases Nat.eq_zero_or_pos ((tallyAt (barCell (xp c)) () 1 : CellTallies nD τ sig Unit) g u) with h2 | h2
      · rw [h2, Nat.zero_add] at h; exact ⟨_, tally_pos h⟩
      · exact ⟨_, tally_pos h2⟩
    · exact ⟨_, tally_pos h1⟩
  · exact .inl (oweC_pos h0)

/-- Every transfer of the list is above level `n`. -/
def Above (n : ℕ) (l : List CI) : Prop := ∀ k ∈ l, n < lvC k

theorem mayWait {c : Dev nD} {s : SemLoc sig} {l : List CI} (h : Above (lv ((c : Thread nD τ), s) ()) l) :
    (levAts L lv : sProp 𝕄) ⊢ MayWait (c : Thread nD τ) s () (oweC c l) :=
  MayOwe.of_cut (L := L) (lev := lv) (lv ((c : Thread nD τ), s) ()) (fun p hp => by rw [Finset.mem_singleton.mp hp, L_tc]; exact Finset.mem_singleton_self _)
    (fun g u hg => by obtain ⟨k, _, rfl⟩ := oweC_pos hg; exact Finset.mem_singleton_self _)
    (fun p hp => by rw [Finset.mem_singleton.mp hp])
    (fun g u hg => by obtain ⟨k, hk, rfl⟩ := oweC_pos hg; rw [lv_dma]; exact h k hk)

theorem above_all : Above 1 lAll := by unfold Above; decide

/-- The semaphores of the launch itself may be waited on at the start and at the end. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, _, rfl⟩ | ⟨n, rfl⟩ <;> exact Finset.mem_singleton_self _)
      (fun p hp => by rw [Finset.mem_singleton.mp hp]; dsimp only [lv]; rw [idx?_none _ hq]; exact le_refl _)
      (fun g u hg => by
        rcases O₀_pos hg with ⟨k, hk, rfl⟩ | ⟨n, rfl⟩
        · rw [lv_dma]; exact lt_trans Nat.zero_lt_one (above_all k hk)
        · rw [lv_bar]; exact Nat.zero_lt_one)
  · rw [MayWait_zero]; iintro -; iempintro

end Cert.AllReduce

end
-- ==== Proof.Steps.lean ====
/-
One rule for each kind of operation of the program, with the protocol's resources of one device, and the rule for a loop.
-/
module

public import proofs.«01_k».proof.Proof.Sched
public import Idealize.ShloMosaic.Lib.Pipeline.BigSepL

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-- The weakest precondition on the device `c`. -/
abbrev WP {α : Type} (c : Dev nD) (p : PG F α) (Q : α → sProp 𝕄) : sProp 𝕄 :=
  wp frame (wpE (defs₀ (F := F)) 𝒱₀ (c : Thread nD τ) none) Set.univ p Q

/-- The first of two programs done, the second remains. -/
theorem wp_seq {A B : sProp 𝕄} {c : Dev nD} {p : PG F PUnit} {k : PUnit → PG F PUnit} {Q : PUnit → sProp 𝕄} (h : A ⊢ WP c p fun _ => B) :
    A ⊢ iprop((B -∗ WP c (k ⟨⟩) Q) -∗ WP c (p >>= k) Q) := by
  unfold WP
  iintro HA Hk
  rw [wp_bind]
  iapply (wp_wand frame (wpE (defs₀ (F := F)) 𝒱₀ (c : Thread nD τ) none) Set.univ (p := p) (Q := fun _ => B)) $$ [HA]
  · iapply h; iexact HA
  iintro %a HB
  iapply Hk; iexact HB

/-- A loop: each turn takes the state on from the turns left to the turns left after it, and consumes and produces its own part. -/
theorem wp_seqF {ι : Type} {P : sProp 𝕄} [BI.Persistent P] {c : Dev nD} {f : ι → PG F PUnit} {R : List ι → sProp 𝕄} {pre post : ι → sProp 𝕄}
    (h : ∀ i l, iprop(P ∗ R (i :: l) ∗ pre i) ⊢ WP c (f i) fun _ => iprop(R l ∗ post i)) (l : List ι) :
    iprop(P ∗ R l ∗ bigSepL l pre) ⊢ WP c (seqF l f) fun _ => iprop(R [] ∗ bigSepL l post) := by
  induction l with
  | nil =>
    iintro ⟨-, HR, -⟩
    unfold seqF WP
    rw [bigSepL_nil, Prog.pure_eq_ret, wp_ret]
    imodintro
    isplitl [HR]; · iexact HR
    iempintro
  | cons i l ih =>
    rw [bigSepL_cons', bigSepL_cons']
    unfold seqF
    iintro ⟨#HP, HR, Hi, Hl⟩
    iapply (wp_seq (h i l)) $$ [HR Hi]
    · isplitr; · iexact HP
      isplitl [HR] <;> iassumption
    iintro ⟨HR, Hi⟩
    iapply (wp_wand frame (wpE (defs₀ (F := F)) 𝒱₀ (c : Thread nD τ) none) Set.univ (p := seqF l f) (Q := fun _ => iprop(R [] ∗ bigSepL l post))) $$ [HR Hl]
    · iapply ih
      isplitr; · iexact HP
      isplitl [HR] <;> iassumption
    iintro %a ⟨HR, Hl⟩
    isplitl [HR]; · iexact HR
    isplitl [Hi] <;> iassumption

/-! ## What every device knows, and its own resources -/

/-- All cells' invariants, that all are at their round, and the levels. -/
def records : sProp 𝕄 :=
  iprop((bigSep Finset.univ fun ck : Dev nD × KI => cellInv ER (sched m ρ) (K ck) (kcell ck))
    ∗ bigSep Finset.univ fun ck : Dev nD × KI => reached ER (kcell ck) 0)
def ctx : sProp 𝕄 := iprop(records m ρ K ∗ levAts L lv)

instance records_persistent : BI.Persistent (records m ρ K) := by unfold records; infer_instance
instance ctx_persistent : BI.Persistent (ctx m ρ K) := by unfold ctx; infer_instance

theorem inv_of (ck : Dev nD × KI) :
    (bigSep Finset.univ fun ck : Dev nD × KI => (cellInv ER (sched m ρ) (K ck) (kcell ck) : sProp 𝕄)) ⊢ cellInv ER (sched m ρ) (K ck) (kcell ck) :=
  bigSep_elim (Finset.mem_univ ck)
theorem reached_of (ck : Dev nD × KI) :
    (bigSep Finset.univ fun ck : Dev nD × KI => (reached ER (kcell ck) 0 : sProp 𝕄)) ⊢ reached ER (kcell ck) 0 :=
  bigSep_elim (Finset.mem_univ ck)
theorem ctx_inv (ck : Dev nD × KI) : ctx m ρ K ⊢ cellInv ER (sched m ρ) (K ck) (kcell ck) := by
  unfold ctx records
  iintro ⟨⟨H, -⟩, -⟩
  iapply (inv_of m ρ K ck); iexact H
theorem ctx_reached (ck : Dev nD × KI) : ctx m ρ K ⊢ reached ER (kcell ck) 0 := by
  unfold ctx records
  iintro ⟨⟨-, H⟩, -⟩
  iapply (reached_of (F := F) ck); iexact H
theorem ctx_inv_dma (c : Dev nD) (k : CI) : ctx m ρ K ⊢ cellInv ER (sched m ρ) (K (c, .inr k)) (dcell c k) := ctx_inv m ρ K (c, .inr k)
theorem ctx_inv_bar (c : Dev nD) : ctx m ρ K ⊢ cellInv ER (sched m ρ) (K (c, .inl ())) (barCell c) := ctx_inv m ρ K (c, .inl ())
theorem ctx_reached_dma (c : Dev nD) (k : CI) : ctx m ρ K ⊢ reached ER (dcell c k) 0 := ctx_reached m ρ K (c, .inr k)
theorem ctx_reached_bar (c : Dev nD) : ctx m ρ K ⊢ reached ER (barCell c) 0 := ctx_reached m ρ K (c, .inl ())

/-- What the device still owes: the transfers of the list. -/
def ow (c : Dev nD) (l : List CI) : sProp 𝕄 := iprop(∃ W, owes (c : Thread nD τ) (oweC c l) W)
/-- At the cell `k`: the position before its round; the right to wait for it; the duty; the counter at zero, the cell done with. -/
def at0 (c : Dev nD) (k : CI) : sProp 𝕄 := atPos ER (dcell c k) 0 ∅ 0
def cr (c : Dev nD) (k : CI) : sProp 𝕄 := cred (tallyAt (dcell c k) () (amt k))
def tk (c : Dev nD) (k : CI) : sProp 𝕄 := dutyTok ER (dcell c k) 0 0
def z (c : Dev nD) (k : CI) : sProp 𝕄 := semVal (dcell c k) 0

/-! ## Places and values -/

variable {s : Shape}

/-- A written place holds the value written. -/
theorem pv_of_write (c : Dev nD) (M : Memref sig .tc .vmem s .f32) (q : PosShare TreeShare) (f : Buf (Elt F) (M.view.loc (c : Thread nD τ))) (X : Vec F s .f32) :
    (M.view.loc (c : Thread nD τ) ↦[M.view.set]{q} M.view.write (Elt F) f X Finset.univ : sProp 𝕄) = pv m c M q X := by
  unfold pv
  refine pointsTo_congr fun i hi => ?_
  obtain ⟨x, _, rfl⟩ := Finset.mem_map.mp hi
  rw [View.write_emb_of_mem _ _ (Finset.mem_univ x), View.write_emb_of_mem _ _ (Finset.mem_univ x)]

theorem pv_free (c : Dev nD) (M : Memref sig .tc .vmem s .f32) (X : Vec F s .f32) : pv m c M fullShare X ⊢ fr c M := by
  unfold pv fr
  iintro H
  iexists _; iexact H

theorem pv_share (c : Dev nD) (M : Memref sig .tc .vmem s .f32) (q : PosShare TreeShare) (X : Vec F s .f32) :
    pv m c M q X ⊣⊢ iprop(pv m c M q.left X ∗ pv m c M q.right X) := by
  unfold pv
  exact pointsTo_share (PosShare.mem_left_op_right _)

/-! ## Operations -/

/-- A wait for a transfer. -/
theorem wp_wt {sp sp' : Space} {s' : Shape} {e e' : EltTy} (c : Dev nD) (k : CI) (l : List CI) (h : Above (lvC k) l)
    {src : Memref sig .tc sp' s' e'} {dst : Memref sig .tc sp s e} {hs : src.view.WordExact} {hd : dst.view.WordExact}
    (hN : dst.view.dmaCredit = amt k) :
    iprop(ctx m ρ K ∗ ow c l ∗ cr c k ∗ at0 c k) ⊢ WP c (Prog.lift (.waitDma2 (dsem k) src dst hs hd)) fun _ => iprop(ow c l ∗ z c k ∗ pay m ρ c k) := by
  unfold ow cr at0 z
  iintro ⟨#Hc, ⟨%W, HO⟩, Hcr, Hat⟩
  unfold Prog.lift
  ihave #HI := (ctx_inv_dma m ρ K c k) $$ Hc
  iapply (Rounds.wp_wait_rest_token 𝒱₀ ER (sched m ρ) (c : Thread nD τ) none (κ := K (c, .inr k))
      (wpE_waitDma2_eq 𝒱₀ (c : Thread nD τ) none Set.univ) (Set.mem_univ _) () (O := oweC c l) (W := W) (R := 0) (m := 0) (T := ∅)
      (by rw [Nat.zero_add, expect_dma, hN])) $$ [Hcr HO Hat]
  · isplitr; · iexact HI
    isplitl [Hcr]; · rw [hN]; iexact Hcr
    isplitl [HO]; · iexact HO
    isplitr
    · iapply (mayWait (c := c) (s := .dma (dsem k)) (l := l) (by rw [lv_dma]; exact h))
      unfold ctx; icases Hc with ⟨-, H⟩; iexact H
    iexact Hat
  iintro ⟨HO, Hat, -, Hpay⟩
  imod (Rounds.cell_close ER (sched m ρ) (Set.mem_univ (K (c, .inr k))) (fun h => h) (R := 0 + 1) (duties_later m ρ (dcell c k))) $$ [Hat] with Hz
  · isplitr; · iexact HI
    iexact Hat
  rw [wp_ret]; imodintro
  isplitl [HO]; · iexists _; iexact HO
  isplitl [Hz]; · iexact Hz
  iapply (Entails.of_eq (rest_dma m ρ c k)); iexact Hpay

/-- A copy within the device. -/
theorem wp_cpy {sp : Space} (c : Dev nD) (k : CI) {src : Memref sig .tc sp s .f32} {dst : Memref sig .tc .vmem s .f32} {hs : src.view.WordExact}
    {hd : dst.view.WordExact} {ht : DmaTarget.Typed sp (.dma (dsem k)) (DmaTarget.here (nD := nD) (τ := τ) (p := .tc) dst)} (q : PosShare TreeShare) (fs : Buf (Elt F) (src.view.loc (c : Thread nD τ)))
    (hN : dst.view.dmaCredit = amt k)
    (hp : iprop(pv m c dst fullShare (src.view.read (Elt F) fs) ∗ (src.view.loc (c : Thread nD τ) ↦[src.view.set]{q} fs)) ⊢ pay m ρ c k) :
    iprop(ctx m ρ K ∗ (src.view.loc (c : Thread nD τ) ↦[src.view.set]{q} fs) ∗ fr c dst ∗ tk c k)
      ⊢ WP c (Prog.lift (.enqueueDma src (.here dst) (.dma (dsem k)) hs hd ht)) fun _ => cr c k := by
  unfold tk cr fr
  iintro ⟨#Hc, Hx, ⟨%fd, Hd⟩, Ht⟩
  unfold Prog.lift
  iapply (Rounds.wp_copy_pointsTo 𝒱₀ ER (sched m ρ) (c : Thread nD τ) none (sem := .dma (dsem k)) (κ := K (c, .inr k)) (d := 0) (r := 0) (fd := fd) (fs := fs)
      (by rw [duties_dma]; exact Finset.mem_singleton_self _) () (amt k) hN (amount_dma m ρ c k 0)
      (by rw [payload_dma]; exact (sep_mono_left (Entails.of_eq (pv_of_write m c dst fullShare fd _))).trans hp)) $$ [Hx Hd Ht]
  · isplitr; · iapply (ctx_inv_dma m ρ K c k); iexact Hc
    isplitl [Hx]; · iexact Hx
    isplitl [Hd]; · iexact Hd
    isplitl [Ht]; · iexact Ht
    iapply (ctx_reached_dma m ρ K c k); iexact Hc
  iintro Hcr
  rw [wp_ret]; imodintro
  iexact Hcr

/-- A transfer to another device: it pays the next transfer the device owes. -/
theorem wp_snd (c n : Dev nD) (k k' : CI) (l : List CI) (hn : n = tgt c k')
    {src : Memref sig .tc .vmem s .f32} {dst : Memref sig .tc .vmem s .f32} {hs : src.view.WordExact} {hd : dst.view.WordExact}
    {hsc : (dst : Memref sig (Dev.tc n : Thread nD τ).2.kind .vmem s .f32).view.ref.isScScratch = false}
    {ht : DmaTarget.Typed .vmem (.dma (dsem k')) (DmaTarget.remote (nD := nD) (τ := τ) (p := .tc) (Dev.tc n : Thread nD τ) (dst : Memref sig (Dev.tc n : Thread nD τ).2.kind .vmem s .f32) (.dma (dsem k)) hsc)}
    (q : PosShare TreeShare) (X : Vec F s .f32) (hN : dst.view.dmaCredit = amt k') (hN' : amt k = amt k')
    (hp : pv m c src q X ⊢ pay m ρ c k) (hp' : pv m (tgt c k') dst fullShare X ⊢ pay m ρ (tgt c k') k') :
    iprop(ctx m ρ K ∗ ow c (k' :: l) ∗ pv m c src q X ∗ fr (tgt c k') dst ∗ tk c k ∗ tk (tgt c k') k')
      ⊢ WP c (Prog.lift (.enqueueDma src (.remote (Dev.tc n) dst (.dma (dsem k)) hsc) (.dma (dsem k')) hs hd ht)) fun _ => iprop(cr c k ∗ ow c l) := by
  subst hn
  unfold tk cr fr ow
  iintro ⟨#Hc, ⟨%W, HO⟩, Hx, ⟨%fd, Hd⟩, Ht, Ht'⟩
  unfold Prog.lift
  rw [hN']
  iapply (Rounds.wp_send_pointsTo 𝒱₀ ER (sched m ρ) (c : Thread nD τ) none (sS := .dma (dsem k)) (sem := .dma (dsem k')) (κ₁ := K (c, .inr k)) (κ₂ := K (tgt c k', .inr k'))
    (r₁ := 0) (r₂ := 0) (d₁ := 0) (d₂ := 0) (fd := fd) (fs := src.view.write (Elt F) (m (src.view.loc (c : Thread nD τ))) X Finset.univ) (q := q)
    (by rw [duties_dma]; exact Finset.mem_singleton_self _) (by rw [duties_dma]; exact Finset.mem_singleton_self _)
    () () (amt k') hN ((amount_dma m ρ c k 0).trans hN') (amount_dma m ρ (tgt c k') k' 0) (oweC c l) (oweC_cons c k' l) (W := W)
    (by rw [payload_dma]; exact hp)
    (by rw [payload_dma, View.read_write_univ]; exact (Entails.of_eq (pv_of_write m (tgt c k') dst fullShare fd X)).trans hp')) $$ [HO Hx Hd Ht Ht']
  · isplitr; · iapply (ctx_inv_dma m ρ K c k); iexact Hc
    isplitr; · iapply (ctx_inv_dma m ρ K (tgt c k') k'); iexact Hc
    isplitl [Hx]; · unfold pv; iexact Hx
    isplitl [Hd]; · iexact Hd
    isplitl [HO]; · iexact HO
    isplitl [Ht]; · iexact Ht
    isplitr; · iapply (ctx_reached_dma m ρ K c k); iexact Hc
    isplitl [Ht']; · iexact Ht'
    iapply (ctx_reached_dma m ρ K (tgt c k') k'); iexact Hc
  iintro ⟨Hcr, HO⟩
  rw [wp_ret]; imodintro
  isplitl [Hcr]; · iexact Hcr
  iexists W; iexact HO

/-- Entering: the device hands its neighbours the places they write and gets theirs. -/
theorem wp_enter (c : Dev nD) (W : Waits sig Unit) :
    iprop(ctx m ρ K ∗ owes (c : Thread nD τ) (O₀ c) W ∗ (room c 0 ∗ room c 1 ∗ room c 2)
        ∗ (dutyTok ER (barCell (peer c)) 0 0 ∗ dutyTok ER (barCell (xp c)) 0 1 ∗ dutyTok ER (barCell (zp c)) 0 2)
        ∗ cred (tallyAt (barCell c) () 3) ∗ atPos ER (barCell c) 0 ∅ 0)
      ⊢ WP c (enter c) fun _ => iprop(ow c lAll ∗ semVal (barCell c) 0 ∗ room (peer c) 0 ∗ room (xp c) 1 ∗ room (zp c) 2) := by
  unfold enter
  simp only [semSignalWord, semWaitWord, Prog.lift, Prog.bind_op, Prog.bind_ret, Prog.pure_eq_ret, dev1_eq, dev2_eq, dev3_eq]
  iintro ⟨#Hc, HO, ⟨Hr0, Hr1, Hr2⟩, ⟨Ht0, Ht1, Ht2⟩, Hcr, Hat⟩
  unfold O₀
  iapply (Rounds.wp_signal 𝒱₀ ER (sched m ρ) (c : Thread nD τ) none (dst := (peer c : Thread nD τ)) (κ := K (peer c, .inl ()))
      (d := 0) (by rw [duties_bar]; exact Finset.mem_univ _) ((amount_bar m ρ (peer c) 0).trans (by decide)) () (O₁ c) rfl) $$ [HO Ht0 Hr0]
  · isplitr; · iapply (ctx_inv_bar m ρ K (peer c)); iexact Hc
    isplitl [HO]; · iexact HO
    isplitl [Ht0]; · iexact Ht0
    isplitl [Hr0]; · rw [payload_bar]; dsimp only [nb]; rw [peer_peer]; iexact Hr0
    iapply (ctx_reached_bar m ρ K (peer c)); iexact Hc
  iintro HO
  unfold O₁
  iapply (Rounds.wp_signal 𝒱₀ ER (sched m ρ) (c : Thread nD τ) none (dst := (xp c : Thread nD τ)) (κ := K (xp c, .inl ()))
      (d := 1) (by rw [duties_bar]; exact Finset.mem_univ _) ((amount_bar m ρ (xp c) 1).trans (by decide)) () (O₂ c) rfl) $$ [HO Ht1 Hr1]
  · isplitr; · iapply (ctx_inv_bar m ρ K (xp c)); iexact Hc
    isplitl [HO]; · iexact HO
    isplitl [Ht1]; · iexact Ht1
    isplitl [Hr1]; · rw [payload_bar]; dsimp only [nb]; rw [xp_xp]; iexact Hr1
    iapply (ctx_reached_bar m ρ K (xp c)); iexact Hc
  iintro HO
  unfold O₂
  iapply (Rounds.wp_signal 𝒱₀ ER (sched m ρ) (c : Thread nD τ) none (dst := (zp c : Thread nD τ)) (κ := K (zp c, .inl ()))
      (d := 2) (by rw [duties_bar]; exact Finset.mem_univ _) ((amount_bar m ρ (zp c) 2).trans (by decide)) () (oweC c lAll) rfl) $$ [HO Ht2 Hr2]
  · isplitr; · iapply (ctx_inv_bar m ρ K (zp c)); iexact Hc
    isplitl [HO]; · iexact HO
    isplitl [Ht2]; · iexact Ht2
    isplitl [Hr2]; · rw [payload_bar]; dsimp only [nb]; rw [zp_zp]; iexact Hr2
    iapply (ctx_reached_bar m ρ K (zp c)); iexact Hc
  iintro HO
  ihave #HI := (ctx_inv_bar m ρ K c) $$ Hc
  iapply (Rounds.wp_wait_rest_token 𝒱₀ ER (sched m ρ) (c : Thread nD τ) none (κ := K (c, .inl ()))
      (wpE_semWait_eq 𝒱₀ (c : Thread nD τ) none Set.univ) (Set.mem_univ _) () (O := oweC c lAll) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait (c := c) (s := .reg barS) (l := lAll) (by rw [lv_bar]; exact above_all))
      unfold ctx; icases Hc with ⟨-, H⟩; iexact H
    iexact Hat
  iintro ⟨HO, Hat, -, Hpay⟩
  imod (Rounds.cell_close ER (sched m ρ) (Set.mem_univ (K (c, .inl ()))) (fun h => h) (R := 0 + 1) (duties_later m ρ (barCell c))) $$ [Hat] with Hz
  · isplitr; · iexact HI
    iexact Hat
  rw [wp_ret]; imodintro
  isplitl [HO]; · unfold ow; iexists _; iexact HO
  isplitl [Hz]; · iexact Hz
  iapply (Entails.of_eq (rest_bar m ρ c)); iexact Hpay

end Cert.AllReduce

end
-- ==== Proof.Places.lean ====
/-
Where the pieces lie: the row blocks of the buffers, and which element of the input each element of a piece is.
-/
module

public import proofs.«01_k».proof.Proof.Steps
public import Idealize.ShloMosaic.Lib.ValueLayout

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## A buffer and its blocks -/

theorem xpt_free {s : Shape} (c : Dev nD) (M : Memref sig .tc .vmem s .f32) (f : Buf (Elt F) (M.view.loc (c : Thread nD τ))) :
    (xpt c M fullShare f : sProp 𝕄) ⊢ fr c M := by
  unfold xpt fr
  iintro H
  iexists f; iexact H

section Blocks
variable {T : Type} [Fintype T] [DecidableEq T] {s : Shape} (c : Dev nD) (M : Memref sig .tc .vmem s .f32) (r : T → Rect s) (hr : ∀ t a, (r t).stride a = 1)
  (hcov : ∀ i : s.Idx, ∃ t, i ∈ (r t).set) (hdis : ∀ t t', t ≠ t' → Disjoint (r t).set (r t').set)

/-- The elements of block `t`, as elements of the buffer. -/
abbrev bset (t : T) : Finset (Idx (M.view.loc (c : Thread nD τ))) := (M.slice (r t) (hr t)).view.set

theorem bset_eq (t : T) : bset c M r hr t = (r t).set.map M.view.emb := View.set_slice M.view (r t)
include hcov in
theorem bset_cover : (M.view.set : Finset (Idx (M.view.loc (c : Thread nD τ)))) = Finset.univ.biUnion (bset c M r hr) := by
  ext i
  rw [Finset.mem_biUnion]
  constructor
  · intro hi
    obtain ⟨x, _, rfl⟩ := Finset.mem_map.mp hi
    obtain ⟨t, ht⟩ := hcov x
    exact ⟨t, Finset.mem_univ t, by rw [bset_eq]; exact Finset.mem_map_of_mem _ ht⟩
  · rintro ⟨t, _, ht⟩
    rw [bset_eq] at ht
    obtain ⟨x, _, rfl⟩ := Finset.mem_map.mp ht
    exact View.emb_mem_set _ x
include hdis in
theorem bset_disjoint (t t' : T) (h : t ≠ t') : Disjoint (bset c M r hr t) (bset c M r hr t') := by
  rw [bset_eq, bset_eq, Finset.disjoint_map]
  exact hdis t t' h

include hcov hdis in
/-- A place is the disjoint blocks that cover it. -/
theorem xpt_blocks (q : PosShare TreeShare) (f : Buf (Elt F) (M.view.loc (c : Thread nD τ))) :
    (xpt c M q f : sProp 𝕄) = bigSep Finset.univ fun t => xpt c (M.slice (r t) (hr t)) q f := by
  unfold xpt
  rw [bset_cover c M r hr hcov]
  exact pointsTo_biUnion Finset.univ _ fun t _ t' _ hne => bset_disjoint c M r hr hdis t t' hne

include hcov hdis in
theorem fr_blocks : (fr c M : sProp 𝕄) ⊢ bigSep Finset.univ fun t => fr c (M.slice (r t) (hr t)) := by
  have h : ∀ f, (xpt c M fullShare f : sProp 𝕄) ⊢ bigSep Finset.univ fun t => fr c (M.slice (r t) (hr t)) := fun f => by
    rw [xpt_blocks c M r hr hcov hdis fullShare f]
    exact bigSep_mono fun t _ => xpt_free c (M.slice (r t) (hr t)) f
  unfold fr
  iintro ⟨%f, H⟩
  iapply (h f); unfold xpt; iexact H

include hcov hdis in
theorem fr_unblocks (f₀ : Buf (Elt F) (M.view.loc (c : Thread nD τ))) :
    (bigSep Finset.univ fun t => fr c (M.slice (r t) (hr t)) : sProp 𝕄) ⊢ fr c M := by
  have h : ∀ fs : T → Buf (Elt F) (M.view.loc (c : Thread nD τ)),
      (bigSep Finset.univ fun t => (M.view.loc (c : Thread nD τ) ↦[bset c M r hr t]{fullShare} fs t : sProp 𝕄)) ⊢ fr c M := fun fs => by
    refine (pointsTo_biUnion_join Finset.univ (bset c M r hr) fs f₀ fun t _ t' _ hne => bset_disjoint c M r hr hdis t t' hne).trans ?_
    rw [← bset_cover c M r hr hcov]
    unfold fr
    iintro ⟨%g, -, H⟩
    iexists g; iexact H
  refine (BI.bigSep_exists_pi Finset.univ (fun (t : T) (f : Buf (Elt F) (M.view.loc (c : Thread nD τ))) =>
    (M.view.loc (c : Thread nD τ) ↦[bset c M r hr t]{fullShare} f : sProp 𝕄))).trans ?_
  iintro ⟨%fs, H⟩
  iapply (h fs); iexact H
end Blocks

section Rows
variable {T : Type} {R : ℕ} (e : T → ℕ) (o : T → Fin 2 → ℕ) (ho : ∀ t, o t = ![64 * e t, 0])
  (inb : ∀ t a, o t a + S64x512.size a ≤ (⟨2, ![R, 512]⟩ : Shape).size a)

include ho in
theorem rows_cover (hc : ∀ b, 64 * b < R → ∃ t, e t = b) (i : (⟨2, ![R, 512]⟩ : Shape).Idx) :
    ∃ t, i ∈ (Rect.unit (s := ⟨2, ![R, 512]⟩) (o t) S64x512.size (inb t)).set := by
  have h0 : (i 0).val < R := (i 0).isLt
  have h1 : (i 1).val < 512 := (i 1).isLt
  obtain ⟨t, ht⟩ := hc ((i 0).val / 64) (by omega)
  refine ⟨t, Rect.mem_set_unit.mpr fun a => ?_⟩
  rw [ho t, ht]
  match a with
  | 0 => show 64 * ((i 0).val / 64) ≤ (i 0).val ∧ (i 0).val < 64 * ((i 0).val / 64) + 64; omega
  | 1 => show 0 ≤ (i 1).val ∧ (i 1).val < 0 + 512; omega

include ho in
theorem rows_disjoint (hi : ∀ t t', e t = e t' → t = t') (t t' : T) (hne : t ≠ t') :
    Disjoint (Rect.unit (s := ⟨2, ![R, 512]⟩) (o t) S64x512.size (inb t)).set (Rect.unit (s := ⟨2, ![R, 512]⟩) (o t') S64x512.size (inb t')).set := by
  have h : e t ≠ e t' := fun h => hne (hi t t' h)
  refine Rect.unit_disjoint 0 ?_
  rw [ho t, ho t']
  show 64 * e t + 64 ≤ 64 * e t' ∨ 64 * e t' + 64 ≤ 64 * e t
  omega
end Rows

theorem cov8 (i : S512x512.Idx) : ∃ k, i ∈ (r8 k).set :=
  rows_cover (R := 512) (fun k : Fin 8 => k.val) (fun k => ![64 * k.val, 0]) (fun _ => rfl) inb8 (fun b hb => ⟨⟨b, by omega⟩, rfl⟩) i
theorem dis8 (k k' : Fin 8) (h : k ≠ k') : Disjoint (r8 k).set (r8 k').set :=
  rows_disjoint (R := 512) (fun k : Fin 8 => k.val) (fun k => ![64 * k.val, 0]) (fun _ => rfl) inb8 (fun _ _ h => Fin.ext h) k k' h
theorem cov4 (i : S256x512.Idx) : ∃ k, i ∈ (r4 k).set :=
  rows_cover (R := 256) (fun k : Fin 4 => k.val) (fun k => ![64 * k.val, 0]) (fun _ => rfl) inb4 (fun b hb => ⟨⟨b, by omega⟩, rfl⟩) i
theorem dis4 (k k' : Fin 4) (h : k ≠ k') : Disjoint (r4 k).set (r4 k').set :=
  rows_disjoint (R := 256) (fun k : Fin 4 => k.val) (fun k => ![64 * k.val, 0]) (fun _ => rfl) inb4 (fun _ _ h => Fin.ext h) k k' h
theorem cov2 (i : S128x512.Idx) : ∃ k, i ∈ (r2 k).set :=
  rows_cover (R := 128) (fun k : Fin 2 => k.val) (fun k => ![64 * k.val, 0]) (fun _ => rfl) inb2 (fun b hb => ⟨⟨b, by omega⟩, rfl⟩) i
theorem dis2 (k k' : Fin 2) (h : k ≠ k') : Disjoint (r2 k).set (r2 k').set :=
  rows_disjoint (R := 128) (fun k : Fin 2 => k.val) (fun k => ![64 * k.val, 0]) (fun _ => rfl) inb2 (fun _ _ h => Fin.ext h) k k' h

theorem fr8 (c : Dev nD) (M : Memref sig .tc .vmem S512x512 .f32) : (fr c M : sProp 𝕄) ⊢ bigSep Finset.univ fun k => fr c (p8 M k) :=
  fr_blocks c M r8 (fun _ _ => rfl) cov8 dis8
theorem fr4 (c : Dev nD) (M : Memref sig .tc .vmem S256x512 .f32) : (fr c M : sProp 𝕄) ⊢ bigSep Finset.univ fun k => fr c (p4 M k) :=
  fr_blocks c M r4 (fun _ _ => rfl) cov4 dis4
theorem fr2 (c : Dev nD) (M : Memref sig .tc .vmem S128x512 .f32) : (fr c M : sProp 𝕄) ⊢ bigSep Finset.univ fun k => fr c (p2 M k) :=
  fr_blocks c M r2 (fun _ _ => rfl) cov2 dis2
include m in
theorem unfr8 (c : Dev nD) (M : Memref sig .tc .vmem S512x512 .f32) : (bigSep Finset.univ fun k => fr c (p8 M k) : sProp 𝕄) ⊢ fr c M :=
  fr_unblocks c M r8 (fun _ _ => rfl) cov8 dis8 (m _)
include m in
theorem unfr4 (c : Dev nD) (M : Memref sig .tc .vmem S256x512 .f32) : (bigSep Finset.univ fun k => fr c (p4 M k) : sProp 𝕄) ⊢ fr c M :=
  fr_unblocks c M r4 (fun _ _ => rfl) cov4 dis4 (m _)
include m in
theorem unfr2 (c : Dev nD) (M : Memref sig .tc .vmem S128x512 .f32) : (bigSep Finset.univ fun k => fr c (p2 M k) : sProp 𝕄) ⊢ fr c M :=
  fr_unblocks c M r2 (fun _ _ => rfl) cov2 dis2 (m _)

/-! ## The blocks of the result -/

/-- Which quarter of the rows a device sends across `y`, and which half of the columns is its own. -/
def qd (c : Dev nD) : ℕ := 2 * (c.val / 8) + c.val % 2
def yc (c : Dev nD) : ℕ := c.val / 4 % 2

/-- The device whose quarter the family `a` of blocks is: the device itself, its neighbour across `x`, across `z`, across both. -/
def fam (c : Dev nD) : Fin 4 → Dev nD
  | 0 => c | 1 => xp c | 2 => zp c | 3 => xp (zp c)
/-- The first row and column of block `k` of the family `a`, as the program computes them. -/
def bo (c : Dev nD) (a : Fin 4) (k : Fin 8) : Fin 2 → ℕ := match a with
  | 0 => k0_off4 c (BitVec.ofNat 32 (64 * k.val)) | 1 => k0_off5 c (BitVec.ofNat 32 (64 * k.val))
  | 2 => k0_off6 c (BitVec.ofNat 32 (64 * k.val)) | 3 => k0_off7 c (BitVec.ofNat 32 (64 * k.val))
theorem bo_eq : ∀ (c : Dev nD) (a : Fin 4) (k : Fin 8), bo c a k = ![64 * (8 * qd (fam c a) + k.val), 0] := by decide +kernel
theorem bo_inb (c : Dev nD) (a : Fin 4) (k : Fin 8) (d : Fin 2) : bo c a k d + S64x512.size d ≤ S2048x512.size d := match a with
  | 0 => k0_off4_inb c k d | 1 => k0_off5_inb c k d | 2 => k0_off6_inb c k d | 3 => k0_off7_inb c k d
abbrev rB (c : Dev nD) (a : Fin 4) (k : Fin 8) : Rect S2048x512 := Rect.unit (s := S2048x512) (bo c a k) S64x512.size (bo_inb c a k)
abbrev oB (c : Dev nD) (a : Fin 4) (k : Fin 8) : Memref sig .tc .vmem S64x512 .f32 := oM.slice (rB c a k) (fun _ => rfl)

/-- The result is its 32 blocks. -/
theorem out_blocks (c : Dev nD) (f : Buf (Elt F) (oM.view.loc (c : Thread nD τ))) :
    (xpt c oM fullShare f : sProp 𝕄) = bigSep Finset.univ fun a : Fin 4 => bigSep Finset.univ fun k : Fin 8 => xpt c (oB c a k) fullShare f := by
  rw [xpt_blocks c oM (fun ak : Fin 4 × Fin 8 => rB c ak.1 ak.2) (fun _ _ => rfl)
    (rows_cover (R := 2048) (fun ak : Fin 4 × Fin 8 => 8 * qd (fam c ak.1) + ak.2.val) (fun ak => bo c ak.1 ak.2) (fun ak => bo_eq c ak.1 ak.2)
      (fun ak => bo_inb c ak.1 ak.2) (fun b hb => by
        have h : ∀ (c : Dev nD) (q : Fin 4), ∃ a, qd (fam c a) = q.val := by decide +kernel
        obtain ⟨a, ha⟩ := h c ⟨b / 8, by omega⟩
        exact ⟨(a, ⟨b % 8, by omega⟩), by show 8 * qd (fam c a) + b % 8 = b; rw [ha]; show 8 * (b / 8) + b % 8 = b; omega⟩))
    (rows_disjoint (R := 2048) (fun ak : Fin 4 × Fin 8 => 8 * qd (fam c ak.1) + ak.2.val) (fun ak => bo c ak.1 ak.2) (fun ak => bo_eq c ak.1 ak.2)
      (fun ak => bo_inb c ak.1 ak.2) (fun ak ak' h => by
        have hq : ∀ (c : Dev nD) (a a' : Fin 4), qd (fam c a) = qd (fam c a') → a = a' := by decide +kernel
        obtain ⟨a, k⟩ := ak; obtain ⟨a', k'⟩ := ak'
        have h' : 8 * qd (fam c a) + k.val = 8 * qd (fam c a') + k'.val := h
        have hk : k.val = k'.val := by omega
        have ha : a = a' := hq c a a' (by omega)
        rw [ha, Fin.ext hk]))]
  exact bigSep_univ_prod _

/-! ## What is added -/

/-- The device from which what is added to rows `64 b`, …, `64 b + 63` comes. -/
def srcOf (c : Dev nD) (b : ℕ) : Dev nD :=
  if b / 8 = qd c then peer c else if b / 8 = qd (xp c) then peer (xp c) else if b / 8 = qd (zp c) then peer (zp c)
  else if 4 ≤ b % 8 then peer c else if b % 2 = 1 then peer (zp (xp c)) else peer (xp (zp c))

/-- What the device adds to its own columns, and the result: their elementwise sum. -/
def inF (c : Dev nD) : (cc0_stg1_0 : Ref sig .tc).ty.Contents (Elt F) :=
  fun i => (xo c).view.read (Elt F) (xstg m ρ (srcOf c ((i 0).val / 64))) i
def outF (c : Dev nD) : (cc0_stg1_0 : Ref sig .tc).ty.Contents (Elt F) := fun i => FloatOps.addf (outV m ρ c i) (inF m ρ c i)

theorem off1_eq : ∀ (d : Dev nD) (k : Fin 8), k0_off1 d (BitVec.ofNat 32 (64 * k.val)) = ![0, 64 * (8 * qd d + k.val), 512 * (1 - yc d)] := by decide +kernel
theorem off2_eq : ∀ (d : Dev nD) (k : Fin 4), k0_off2 d (BitVec.ofNat 32 (256 + 64 * k.val)) = ![0, 64 * (8 * qd (xp (zp d)) + 4 + k.val), 512 * (1 - yc d)] := by decide +kernel
theorem off3_eq : ∀ d : Dev nD, k0_off3 d = ![0, 0, 512 * yc d] := by decide +kernel

/-- The element of a piece of the input, cut out of it at `o`, is the element of the device's columns in the same row and column. -/
theorem emb_eq (c : Dev nD) {o : Fin 3 → ℕ} (ho : ∀ a, o a + S1x64x512.size a ≤ S1x2048x1024.size a) {b : ℕ} (e : o = ![0, 64 * b, 512 * yc c])
    (a : Fin 4) (k : Fin 8) (hb : 8 * qd (fam c a) + k.val = b) (j : S64x512.Idx) :
    (((xM.slice (Rect.unit (s := S1x2048x1024) o S1x64x512.size ho) (fun _ => rfl)).squeeze S64x512 squeezes_S1x64x512_S64x512).view.emb j : S1x2048x1024.Idx)
      = (xo c).view.emb ((rB c a k).emb j) := by
  funext d
  apply Fin.ext
  show o d + 1 * ((Shape.reshapeEquiv squeezes_S1x64x512_S64x512.numel_eq j d : Fin _) : ℕ)
    = k0_off3 c d + 1 * ((Shape.reshapeEquiv squeezes_S1x2048x512_S2048x512.numel_eq ((rB c a k).emb j) d : Fin _) : ℕ)
  rw [off3_eq, e]
  have h1 := Shape.reshapeEquiv_cons_one squeezes_S1x64x512_S64x512.numel_eq j
  have h2 := Shape.reshapeEquiv_cons_one squeezes_S1x2048x512_S2048x512.numel_eq ((rB c a k).emb j)
  rw [h1, h2]
  match d with
  | 0 => rfl
  | 1 =>
    show 64 * b + 1 * (j 0).val = 0 + 1 * (bo c a k 0 + 1 * (j 0).val)
    rw [bo_eq, hb]; show 64 * b + 1 * (j 0).val = 0 + 1 * (64 * b + 1 * (j 0).val); omega
  | 2 =>
    show 512 * yc c + 1 * (j 1).val = 512 * yc c + 1 * (bo c a k 1 + 1 * (j 1).val)
    rw [bo_eq]; show 512 * yc c + 1 * (j 1).val = 512 * yc c + 1 * (0 + 1 * (j 1).val); omega

theorem row_block (c : Dev nD) (a : Fin 4) (k : Fin 8) (j : S64x512.Idx) : (((rB c a k).emb j) 0).val / 64 = 8 * qd (fam c a) + k.val := by
  have h : (j 0).val < 64 := (j 0).isLt
  show (bo c a k 0 + 1 * (j 0).val) / 64 = _
  rw [bo_eq]; show (64 * (8 * qd (fam c a) + k.val) + 1 * (j 0).val) / 64 = _; omega

/-- A collected piece of the device `d` is what is added in the block, if the block has its rows and takes from it. -/
theorem stV_in (c d : Dev nD) (a : Fin 4) (k : Fin 8) (hy : 1 - yc d = yc c) (hq : qd d = qd (fam c a)) (hs : srcOf c (8 * qd (fam c a) + k.val) = d)
    (j : S64x512.Idx) : stV m ρ d k j = inF m ρ c ((rB c a k).emb j) := by
  unfold stV inF
  rw [row_block, hs, View.read_apply, View.read_apply]
  exact congrArg (fun i => _root_.cast _ (xstg m ρ d i)) (emb_eq c (k0_off1_inb d k) (by rw [off1_eq, hy, hq]) a k rfl j)
theorem seV_in (c : Dev nD) (k : Fin 4) (j : S64x512.Idx) : seV m ρ (peer c) k j = inF m ρ c ((rB c 3 (hi k)).emb j) := by
  have h1 : ∀ c : Dev nD, 1 - yc (peer c) = yc c ∧ qd (xp (zp (peer c))) = qd (fam c 3) := by decide +kernel
  have h2 : ∀ (c : Dev nD) (k : Fin 4), srcOf c (8 * qd (fam c 3) + (hi k).val) = peer c := by decide +kernel
  unfold seV inF
  rw [row_block, h2, View.read_apply, View.read_apply]
  exact congrArg (fun i => _root_.cast _ (xstg m ρ (peer c) i)) (emb_eq c (k0_off2_inb (peer c) k) (by rw [off2_eq, (h1 c).1]) 3 (hi k)
    (by rw [(h1 c).2]; show _ + (4 + k.val) = _; omega) j)

theorem in0 (c : Dev nD) (k : Fin 8) (j : S64x512.Idx) : stV m ρ (peer c) k j = inF m ρ c ((rB c 0 k).emb j) := by
  have h : ∀ (c : Dev nD) (k : Fin 8), 1 - yc (peer c) = yc c ∧ qd (peer c) = qd (fam c 0) ∧ srcOf c (8 * qd (fam c 0) + k.val) = peer c := by decide +kernel
  exact stV_in m ρ c _ 0 k (h c k).1 (h c k).2.1 (h c k).2.2 j
theorem in1 (c : Dev nD) (k : Fin 8) (j : S64x512.Idx) : stV m ρ (peer (xp c)) k j = inF m ρ c ((rB c 1 k).emb j) := by
  have h : ∀ (c : Dev nD) (k : Fin 8), 1 - yc (peer (xp c)) = yc c ∧ qd (peer (xp c)) = qd (fam c 1) ∧ srcOf c (8 * qd (fam c 1) + k.val) = peer (xp c) := by decide +kernel
  exact stV_in m ρ c _ 1 k (h c k).1 (h c k).2.1 (h c k).2.2 j
theorem in2 (c : Dev nD) (k : Fin 8) (j : S64x512.Idx) : stV m ρ (peer (zp c)) k j = inF m ρ c ((rB c 2 k).emb j) := by
  have h : ∀ (c : Dev nD) (k : Fin 8), 1 - yc (peer (zp c)) = yc c ∧ qd (peer (zp c)) = qd (fam c 2) ∧ srcOf c (8 * qd (fam c 2) + k.val) = peer (zp c) := by decide +kernel
  exact stV_in m ρ c _ 2 k (h c k).1 (h c k).2.1 (h c k).2.2 j
theorem in3x (c : Dev nD) (k : Fin 2) (j : S64x512.Idx) : stV m ρ (peer (zp (xp c))) (od k) j = inF m ρ c ((rB c 3 (od k)).emb j) := by
  have h : ∀ (c : Dev nD) (k : Fin 2), 1 - yc (peer (zp (xp c))) = yc c ∧ qd (peer (zp (xp c))) = qd (fam c 3)
    ∧ srcOf c (8 * qd (fam c 3) + (od k).val) = peer (zp (xp c)) := by decide +kernel
  exact stV_in m ρ c _ 3 (od k) (h c k).1 (h c k).2.1 (h c k).2.2 j
theorem in3z (c : Dev nD) (k : Fin 2) (j : S64x512.Idx) : stV m ρ (peer (xp (zp c))) (ev k) j = inF m ρ c ((rB c 3 (ev k)).emb j) := by
  have h : ∀ (c : Dev nD) (k : Fin 2), 1 - yc (peer (xp (zp c))) = yc c ∧ qd (peer (xp (zp c))) = qd (fam c 3)
    ∧ srcOf c (8 * qd (fam c 3) + (ev k).val) = peer (xp (zp c)) := by decide +kernel
  exact stV_in m ρ c _ 3 (ev k) (h c k).1 (h c k).2.1 (h c k).2.2 j

/-! ## Adding a piece -/

theorem pay_at (a b : Vec F S64x512 .f32) (j : S64x512.Idx) : k0_pay1 a b j = FloatOps.addf (a j) (b j) := by
  unfold k0_pay1 addf
  rw [shapeCast_self]

/-- Adding a piece into a block of the result: the block then holds the result. -/
theorem wp_add {sz : Fin 2 → ℕ} (c : Dev nD) (a : Fin 4) (k : Fin 8) (B : Memref sig .tc .vmem ⟨2, sz⟩ .f32) (b : Fin 2 → ℕ)
    (hb : ∀ d, b d + S64x512.size d ≤ sz d) (q : PosShare TreeShare) (X : Vec F S64x512 .f32) (hX : ∀ j, X j = inF m ρ c ((rB c a k).emb j)) :
    iprop(xpt c (oB c a k) fullShare (outV m ρ c) ∗ pv m c (B.slice (Rect.unit (s := ⟨2, sz⟩) b S64x512.size hb) (fun _ => rfl)) q X)
      ⊢ WP c (addInto (bo c a k) (bo_inb c a k) B b hb) fun _ =>
          iprop(xpt c (oB c a k) fullShare (outF m ρ c) ∗ pv m c (B.slice (Rect.unit (s := ⟨2, sz⟩) b S64x512.size hb) (fun _ => rfl)) q X) := by
  unfold xpt pv WP
  simp only [Prog.lift, Prog.bind_op, Prog.bind_ret]
  iintro ⟨Ho, Hb⟩
  iapply (wp_load_rect 𝒱₀ (c : Thread nD τ) none Set.univ (m := oM) (r := rB c a k) (S := (oB c a k).view.set) (Finset.Subset.refl _)) $$ [Ho]
  · iexact Ho
  iintro Ho
  iapply (wp_load_rect 𝒱₀ (c : Thread nD τ) none Set.univ (m := B) (r := Rect.unit (s := ⟨2, sz⟩) b S64x512.size hb)
    (S := (B.slice (Rect.unit (s := ⟨2, sz⟩) b S64x512.size hb) (fun _ => rfl)).view.set) (Finset.Subset.refl _)) $$ [Hb]
  · iexact Hb
  iintro Hb
  iapply (wp_load_rect 𝒱₀ (c : Thread nD τ) none Set.univ (m := oM) (r := rB c a k) (S := (oB c a k).view.set) (Finset.Subset.refl _)) $$ [Ho]
  · iexact Ho
  iintro Ho
  iapply (wp_store 𝒱₀ (c : Thread nD τ) none Set.univ (m := oM) (r := rB c a k) (Mk := Finset.univ) (S := (oB c a k).view.set) (Finset.Subset.refl _)) $$ [Ho]
  · iexact Ho
  iintro Ho
  rw [wp_ret]; imodintro
  isplitl [Ho]
  · iapply (Entails.of_eq (pointsTo_congr (ℓ := oM.view.loc (c : Thread nD τ)) (I := (oB c a k).view.set) (q := fullShare) fun i hi => ?_)) $$ Ho
    obtain ⟨j, _, rfl⟩ := Finset.mem_map.mp hi
    refine (View.write_emb_of_mem (v := oM.access (rB c a k)) _ _ (Finset.mem_univ j)).trans ?_
    have h2 : (B.access (Rect.unit (s := ⟨2, sz⟩) b S64x512.size hb)).read (Elt F)
        ((B.slice (Rect.unit (s := ⟨2, sz⟩) b S64x512.size hb) (fun _ => rfl)).view.write (Elt F) (m (B.view.loc (c : Thread nD τ))) X Finset.univ) = X := View.read_write_univ _ _
    rw [pay_at, h2, hX]
    rfl
  iexact Hb

end Cert.AllReduce

end
-- ==== Proof.Phases.lean ====
/-
One turn of each phase of the program: what it needs and what it leaves.
-/
module

public import proofs.«01_k».proof.Proof.Places

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-- The last step of a program. -/
theorem wp_last {A B : sProp 𝕄} {c : Dev nD} {p : PG F PUnit} {Q : PUnit → sProp 𝕄} (h : A ⊢ WP c p fun _ => B) :
    A ⊢ iprop((B -∗ Q ⟨⟩) -∗ WP c p Q) := by
  iintro HA Hk
  iapply (wp_wand frame (wpE (defs₀ (F := F)) 𝒱₀ (c : Thread nD τ) none) Set.univ (p := p) (Q := fun _ => B)) $$ [HA]
  · iapply h; iexact HA
  iintro %a HB
  iapply Hk; iexact HB

/-! ## The transfers still owed lie above the waits -/

theorem above_append {n : ℕ} {l l' : List CI} (h : Above n l) (h' : Above n l') : Above n (l ++ l') := fun k hk =>
  (List.mem_append.mp hk).elim (h k) (h' k)
theorem above_nil {n : ℕ} : Above n [] := fun k hk => absurd hk List.not_mem_nil
theorem above_Y {n : ℕ} (hn : n < 2) (l : List (Fin 8)) : Above n (lY l) := fun k hk => by
  obtain ⟨i, _, rfl⟩ := List.mem_map.mp hk; exact hn
theorem above_E {n : ℕ} (hn : n < 2) (l : List (Fin 4)) : Above n (lE l) := fun k hk => by
  obtain ⟨i, _, rfl⟩ := List.mem_map.mp hk; exact hn
theorem above_R {n : ℕ} (hn : n < 3) (l : List (Fin 8)) : Above n (lR l) := fun k hk => by
  obtain ⟨i, _, hk⟩ := List.mem_flatMap.mp hk
  rcases List.mem_cons.mp hk with rfl | hk
  · exact hn
  · rw [List.mem_singleton.mp hk]; exact hn
theorem above_H {n : ℕ} (hn : n < 4) (l : List (Fin 2)) : Above n (lH l) := fun k hk => by
  obtain ⟨i, _, hk⟩ := List.mem_flatMap.mp hk
  rcases List.mem_cons.mp hk with rfl | hk
  · exact hn
  · rw [List.mem_singleton.mp hk]; exact hn

theorem above_tail (k : Fin 2) (l : List (Fin 2)) : Above 3 (.ar k :: lH l) := fun x hx =>
  (List.mem_cons.mp hx).elim (fun e => by rw [e]; exact (by decide : 3 < 4)) (above_H (n := 3) (by decide) l x)

/-! ## Turns -/

theorem pv_own (c : Dev nD) : (pv m c oM fullShare (outV m ρ c) : sProp 𝕄) = xpt c oM fullShare (outV m ρ c) := by
  unfold pv xpt
  exact congrArg _ (View.write_whole_univ (Val := Elt F) (b := cc0_stg1_0) _ _)

theorem collect_turn (c : Dev nD) (k : Fin 8) (l : List (Fin 8)) :
    iprop(ctx m ρ K ∗ emp ∗ (xpt c (xq c k) (shQ k) (xstg m ρ c) ∗ fr c (p8 stM k) ∗ tk c (.st k)))
      ⊢ WP c (collect c k) fun _ => iprop(emp ∗ cr c (.st k)) := by
  unfold collect
  iintro ⟨#Hc, -, Hx, Hd, Ht⟩
  iapply (wp_last (wp_cpy m ρ K c (.st k) (src := xq c k) (dst := p8 stM k) (shQ k) (xstg m ρ c) (cred_st k) Entails.rfl)) $$ [Hx Hd Ht]
  · iframe Hd Ht; isplitr; · iexact Hc
    unfold xpt; iexact Hx
  iintro H; iframe
theorem collectE_turn (c : Dev nD) (k : Fin 4) (l : List (Fin 4)) :
    iprop(ctx m ρ K ∗ emp ∗ (xpt c (xe c k) (shE k) (xstg m ρ c) ∗ fr c (p4 seM k) ∗ tk c (.se k)))
      ⊢ WP c (collectE c k) fun _ => iprop(emp ∗ cr c (.se k)) := by
  unfold collectE
  iintro ⟨#Hc, -, Hx, Hd, Ht⟩
  iapply (wp_last (wp_cpy m ρ K c (.se k) (src := xe c k) (dst := p4 seM k) (shE k) (xstg m ρ c) (cred_se k) Entails.rfl)) $$ [Hx Hd Ht]
  · iframe Hd Ht; isplitr; · iexact Hc
    unfold xpt; iexact Hx
  iintro H; iframe
theorem own_pay (c : Dev nD) : iprop(pv m c oM fullShare ((xo c).view.read (Elt F) (xstg m ρ c)) ∗ ((xo c).view.loc (c : Thread nD τ) ↦[(xo c).view.set]{shO} xstg m ρ c))
    ⊢ pay m ρ c .lo :=
  sep_mono_left (Entails.of_eq (pv_own m ρ c))
theorem own_step (c : Dev nD) :
    iprop(ctx m ρ K ∗ xpt c (xo c) shO (xstg m ρ c) ∗ fr c oM ∗ tk c .lo) ⊢ WP c (own c) fun _ => cr c .lo := by
  unfold own
  iintro ⟨#Hc, Hx, Hd, Ht⟩
  iapply (wp_cpy m ρ K c .lo (src := xo c) (dst := oM) shO (xstg m ρ c) cred_out (own_pay m ρ c)) $$ [Hx Hd Ht]
  iframe Hd Ht; isplitr; · iexact Hc
  unfold xpt; iexact Hx
theorem ownWait_step (c : Dev nD) (l : List CI) (h : Above 0 l) :
    iprop(ctx m ρ K ∗ ow c l ∗ cr c .lo ∗ at0 c .lo)
      ⊢ WP c (ownWait c) fun _ => iprop(ow c l ∗ z c .lo ∗ (xpt c oM fullShare (outV m ρ c) ∗ xpt c (xo c) shO (xstg m ρ c))) := by
  unfold ownWait
  exact wp_wt m ρ K c .lo l h cred_out

theorem sendY_turn (c : Dev nD) (r : List CI) (hr : Above 0 r) (k : Fin 8) (l : List (Fin 8)) :
    iprop(ctx m ρ K ∗ ow c (lY (k :: l) ++ r) ∗ (cr c (.st k) ∗ at0 c (.st k) ∗ fr (peer c) (p8 ryM k) ∗ tk c (.ys k) ∗ tk (peer c) (.yr k)))
      ⊢ WP c (sendY c k) fun _ => iprop(ow c (lY l ++ r) ∗ (z c (.st k) ∗ xpt c (xq c k) (shQ k) (xstg m ρ c) ∗ cr c (.ys k))) := by
  unfold sendY
  iintro ⟨#Hc, HO, Hcr, Hat, Hd, Ht, Ht'⟩
  iapply (wp_seq (wp_wt m ρ K c (.st k) _ (above_append (above_Y (n := 0) (by decide) _) hr) (cred_st k))) $$ [HO Hcr Hat]
  · iframe HO Hcr Hat; iexact Hc
  dsimp only [pay]
  iintro ⟨HO, Hz, Hp, Hx⟩
  iapply (wp_last (wp_snd m ρ K c (dY c k) (.ys k) (.yr k) (lY l ++ r) (dY_eq c k) fullShare (stV m ρ c k) (cred_ry k) rfl
    Entails.rfl (by dsimp only [pay, tgt]; rw [peer_peer]))) $$ [HO Hp Hd Ht Ht']
  · iframe Hp Ht; isplitr; · iexact Hc
    isplitl [HO]; · iexact HO
    isplitl [Hd]; · iexact Hd
    iexact Ht'
  iintro ⟨Hcr, HO⟩
  iframe
theorem sendE_turn (c : Dev nD) (r : List CI) (hr : Above 0 r) (k : Fin 4) (l : List (Fin 4)) :
    iprop(ctx m ρ K ∗ ow c (lE (k :: l) ++ r) ∗ (cr c (.se k) ∗ at0 c (.se k) ∗ fr (peer c) (p4 reM k) ∗ tk c (.es k) ∗ tk (peer c) (.er k)))
      ⊢ WP c (sendE c k) fun _ => iprop(ow c (lE l ++ r) ∗ (z c (.se k) ∗ xpt c (xe c k) (shE k) (xstg m ρ c) ∗ cr c (.es k))) := by
  unfold sendE
  iintro ⟨#Hc, HO, Hcr, Hat, Hd, Ht, Ht'⟩
  iapply (wp_seq (wp_wt m ρ K c (.se k) _ (above_append (above_E (n := 0) (by decide) _) hr) (cred_se k))) $$ [HO Hcr Hat]
  · iframe HO Hcr Hat; iexact Hc
  dsimp only [pay]
  iintro ⟨HO, Hz, Hp, Hx⟩
  iapply (wp_last (wp_snd m ρ K c (dE c k) (.es k) (.er k) (lE l ++ r) (dE_eq c k) fullShare (seV m ρ c k) (cred_re k) rfl
    Entails.rfl (by dsimp only [pay, tgt]; rw [peer_peer]))) $$ [HO Hp Hd Ht Ht']
  · iframe Hp Ht; isplitr; · iexact Hc
    isplitl [HO]; · iexact HO
    isplitl [Hd]; · iexact Hd
    iexact Ht'
  iintro ⟨Hcr, HO⟩
  iframe

theorem relay_turn (c : Dev nD) (r : List CI) (hr : Above 2 r) (k : Fin 8) (l : List (Fin 8)) :
    iprop(ctx m ρ K ∗ ow c (lR (k :: l) ++ r) ∗ (cr c (.yr k) ∗ at0 c (.yr k) ∗ fr (xp c) (p8 rxM k) ∗ fr (zp c) (p8 rzM k)
        ∗ tk c (.xs k) ∗ tk (xp c) (.xr k) ∗ tk c (.zs k) ∗ tk (zp c) (.zr k) ∗ xpt c (oB c 0 k) fullShare (outV m ρ c)))
      ⊢ WP c (relay c k) fun _ => iprop(ow c (lR l ++ r) ∗ (z c (.yr k) ∗ cr c (.xs k) ∗ cr c (.zs k)
        ∗ xpt c (oB c 0 k) fullShare (outF m ρ c) ∗ pv m c (p8 ryM k) shK (stV m ρ (peer c) k))) := by
  unfold relay
  iintro ⟨#Hc, HO, Hcr, Hat, Hd, Hd', Ht, Ht', Hu, Hu', Ho⟩
  iapply (wp_seq (wp_wt m ρ K c (.yr k) _ (above_append (above_R (n := 2) (by decide) _) hr) (cred_ry k))) $$ [HO Hcr Hat]
  · iframe HO Hcr Hat; iexact Hc
  dsimp only [pay]
  iintro ⟨HO, Hz, Hp⟩
  ihave Hp := (pv_share m c (p8 ryM k) fullShare (stV m ρ (peer c) k)).1 $$ Hp
  icases Hp with ⟨Hp1, Hp⟩
  ihave Hp := (pv_share m c (p8 ryM k) fullShare.right (stV m ρ (peer c) k)).1 $$ Hp
  icases Hp with ⟨Hp2, HpK⟩
  iapply (wp_seq (wp_snd m ρ K c (dX c k) (.xs k) (.xr k) (.zr k :: (lR l ++ r)) (dX_eq c k) sh1 (stV m ρ (peer c) k) (cred_rx k) rfl
    Entails.rfl (by dsimp only [pay, tgt]; rw [xp_xp]))) $$ [HO Hp1 Hd Ht Ht']
  · iframe Hp1 Ht; isplitr; · iexact Hc
    isplitl [HO]; · iexact HO
    isplitl [Hd]; · iexact Hd
    iexact Ht'
  iintro ⟨Hcx, HO⟩
  iapply (wp_seq (wp_snd m ρ K c (dZ c k) (.zs k) (.zr k) (lR l ++ r) (dZ_eq c k) sh2 (stV m ρ (peer c) k) (cred_rz k) rfl
    Entails.rfl (by dsimp only [pay, tgt]; rw [zp_zp]))) $$ [HO Hp2 Hd' Hu Hu']
  · iframe Hp2 Hu; isplitr; · iexact Hc
    isplitl [HO]; · iexact HO
    isplitl [Hd']; · iexact Hd'
    iexact Hu'
  iintro ⟨Hcz, HO⟩
  iapply (wp_last (wp_add m ρ c 0 k ryM ![64 * k.val, 0] (inb8 k) shK (stV m ρ (peer c) k) (in0 m ρ c k))) $$ [Ho HpK]
  · iframe
  iintro ⟨Ho, HpK⟩
  iframe

theorem hop_turn (c : Dev nD) (k : Fin 2) (l : List (Fin 2)) :
    iprop(ctx m ρ K ∗ ow c (lH (k :: l)) ∗ ((cr c (.xr (ev k)) ∗ at0 c (.xr (ev k)) ∗ xpt c (oB c 1 (ev k)) fullShare (outV m ρ c))
        ∗ (cr c (.zr (ev k)) ∗ at0 c (.zr (ev k)) ∗ xpt c (oB c 2 (ev k)) fullShare (outV m ρ c))
        ∗ (cr c (.xr (od k)) ∗ at0 c (.xr (od k)) ∗ xpt c (oB c 1 (od k)) fullShare (outV m ρ c))
        ∗ (cr c (.zr (od k)) ∗ at0 c (.zr (od k)) ∗ xpt c (oB c 2 (od k)) fullShare (outV m ρ c))
        ∗ fr (zp c) (p2 bzM k) ∗ tk c (.cs k) ∗ tk (zp c) (.cr k) ∗ fr (xp c) (p2 bxM k) ∗ tk c (.as k) ∗ tk (xp c) (.ar k)))
      ⊢ WP c (hop c k) fun _ => iprop(ow c (lH l) ∗ ((z c (.xr (ev k)) ∗ xpt c (oB c 1 (ev k)) fullShare (outF m ρ c))
        ∗ (z c (.zr (ev k)) ∗ xpt c (oB c 2 (ev k)) fullShare (outF m ρ c))
        ∗ (z c (.xr (od k)) ∗ xpt c (oB c 1 (od k)) fullShare (outF m ρ c))
        ∗ (z c (.zr (od k)) ∗ xpt c (oB c 2 (od k)) fullShare (outF m ρ c))
        ∗ cr c (.cs k) ∗ cr c (.as k) ∗ pv m c (p8 rxM (ev k)) fullShare.right (stV m ρ (peer (xp c)) (ev k)) ∗ fr c (p8 rzM (ev k))
        ∗ fr c (p8 rxM (od k)) ∗ pv m c (p8 rzM (od k)) fullShare.right (stV m ρ (peer (zp c)) (od k)))) := by
  unfold hop waitX waitZ
  iintro ⟨#Hc, HO, ⟨Hc1, Ha1, Ho1⟩, ⟨Hc2, Ha2, Ho2⟩, ⟨Hc3, Ha3, Ho3⟩, ⟨Hc4, Ha4, Ho4⟩, Hd, Ht, Ht', Hd', Hu, Hu'⟩
  iapply (wp_seq (wp_wt m ρ K c (.xr (ev k)) _ (above_H (n := 3) (by decide) _) (cred_rx (ev k)))) $$ [HO Hc1 Ha1]
  · iframe HO Hc1 Ha1; iexact Hc
  dsimp only [pay]
  iintro ⟨HO, Hz1, Hp⟩
  ihave Hp := (pv_share m c (p8 rxM (ev k)) fullShare (stV m ρ (peer (xp c)) (ev k))).1 $$ Hp
  icases Hp with ⟨Hp, Hq1⟩
  iapply (wp_seq (wp_snd m ρ K c (dC c k) (.cs k) (.cr k) (.ar k :: lH l) (dC_eq c k) sh1 (stV m ρ (peer (xp c)) (ev k)) (cred_bz k) rfl
    Entails.rfl (by dsimp only [pay, tgt]; rw [zp_zp]))) $$ [HO Hp Hd Ht Ht']
  · iframe Hp Ht; isplitr; · iexact Hc
    isplitl [HO]; · iexact HO
    isplitl [Hd]; · iexact Hd
    iexact Ht'
  iintro ⟨Hcc, HO⟩
  iapply (wp_seq (wp_add m ρ c 1 (ev k) rxM ![64 * (ev k).val, 0] (inb8 (ev k)) fullShare.right (stV m ρ (peer (xp c)) (ev k)) (in1 m ρ c (ev k)))) $$ [Ho1 Hq1]
  · iframe
  iintro ⟨Ho1, Hq1⟩
  iapply (wp_seq (wp_wt m ρ K c (.zr (ev k)) _ (above_tail k l) (cred_rz (ev k)))) $$ [HO Hc2 Ha2]
  · iframe HO Hc2 Ha2; iexact Hc
  dsimp only [pay]
  iintro ⟨HO, Hz2, Hq2⟩
  iapply (wp_seq (wp_add m ρ c 2 (ev k) rzM ![64 * (ev k).val, 0] (inb8 (ev k)) fullShare (stV m ρ (peer (zp c)) (ev k)) (in2 m ρ c (ev k)))) $$ [Ho2 Hq2]
  · iframe
  iintro ⟨Ho2, Hq2⟩
  iapply (wp_seq (wp_wt m ρ K c (.xr (od k)) _ (above_tail k l) (cred_rx (od k)))) $$ [HO Hc3 Ha3]
  · iframe HO Hc3 Ha3; iexact Hc
  dsimp only [pay]
  iintro ⟨HO, Hz3, Hq3⟩
  iapply (wp_seq (wp_add m ρ c 1 (od k) rxM ![64 * (od k).val, 0] (inb8 (od k)) fullShare (stV m ρ (peer (xp c)) (od k)) (in1 m ρ c (od k)))) $$ [Ho3 Hq3]
  · iframe
  iintro ⟨Ho3, Hq3⟩
  iapply (wp_seq (wp_wt m ρ K c (.zr (od k)) _ (above_tail k l) (cred_rz (od k)))) $$ [HO Hc4 Ha4]
  · iframe HO Hc4 Ha4; iexact Hc
  dsimp only [pay]
  iintro ⟨HO, Hz4, Hp⟩
  ihave Hp := (pv_share m c (p8 rzM (od k)) fullShare (stV m ρ (peer (zp c)) (od k))).1 $$ Hp
  icases Hp with ⟨Hp, Hq4⟩
  iapply (wp_seq (wp_snd m ρ K c (dA c k) (.as k) (.ar k) (lH l) (dA_eq c k) sh1 (stV m ρ (peer (zp c)) (od k)) (cred_bx k) rfl
    Entails.rfl (by dsimp only [pay, tgt]; rw [xp_xp]))) $$ [HO Hp Hd' Hu Hu']
  · iframe Hp Hu; isplitr; · iexact Hc
    isplitl [HO]; · iexact HO
    isplitl [Hd']; · iexact Hd'
    iexact Hu'
  iintro ⟨Hca, HO⟩
  iapply (wp_last (wp_add m ρ c 2 (od k) rzM ![64 * (od k).val, 0] (inb8 (od k)) fullShare.right (stV m ρ (peer (zp c)) (od k)) (in2 m ρ c (od k)))) $$ [Ho4 Hq4]
  · iframe
  iintro ⟨Ho4, Hq4⟩
  ihave Hq2 := (pv_free m c (p8 rzM (ev k)) _) $$ Hq2
  ihave Hq3 := (pv_free m c (p8 rxM (od k)) _) $$ Hq3
  iframe

theorem hopHi_turn (c : Dev nD) (k : Fin 4) (l : List (Fin 4)) :
    iprop(ctx m ρ K ∗ ow c [] ∗ ((cr c (.xr (hi k)) ∗ at0 c (.xr (hi k)) ∗ xpt c (oB c 1 (hi k)) fullShare (outV m ρ c))
        ∗ (cr c (.zr (hi k)) ∗ at0 c (.zr (hi k)) ∗ xpt c (oB c 2 (hi k)) fullShare (outV m ρ c))))
      ⊢ WP c (hopHi c k) fun _ => iprop(ow c [] ∗ ((z c (.xr (hi k)) ∗ xpt c (oB c 1 (hi k)) fullShare (outF m ρ c))
        ∗ (z c (.zr (hi k)) ∗ xpt c (oB c 2 (hi k)) fullShare (outF m ρ c)) ∗ fr c (p8 rxM (hi k)) ∗ fr c (p8 rzM (hi k)))) := by
  unfold hopHi waitX waitZ
  iintro ⟨#Hc, HO, ⟨Hc1, Ha1, Ho1⟩, ⟨Hc2, Ha2, Ho2⟩⟩
  iapply (wp_seq (wp_wt m ρ K c (.xr (hi k)) _ above_nil (cred_rx (hi k)))) $$ [HO Hc1 Ha1]
  · iframe HO Hc1 Ha1; iexact Hc
  dsimp only [pay]
  iintro ⟨HO, Hz1, Hq1⟩
  iapply (wp_seq (wp_add m ρ c 1 (hi k) rxM ![64 * (hi k).val, 0] (inb8 (hi k)) fullShare (stV m ρ (peer (xp c)) (hi k)) (in1 m ρ c (hi k)))) $$ [Ho1 Hq1]
  · iframe
  iintro ⟨Ho1, Hq1⟩
  iapply (wp_seq (wp_wt m ρ K c (.zr (hi k)) _ above_nil (cred_rz (hi k)))) $$ [HO Hc2 Ha2]
  · iframe HO Hc2 Ha2; iexact Hc
  dsimp only [pay]
  iintro ⟨HO, Hz2, Hq2⟩
  iapply (wp_last (wp_add m ρ c 2 (hi k) rzM ![64 * (hi k).val, 0] (inb8 (hi k)) fullShare (stV m ρ (peer (zp c)) (hi k)) (in2 m ρ c (hi k)))) $$ [Ho2 Hq2]
  · iframe
  iintro ⟨Ho2, Hq2⟩
  ihave Hq1 := (pv_free m c (p8 rxM (hi k)) _) $$ Hq1
  ihave Hq2 := (pv_free m c (p8 rzM (hi k)) _) $$ Hq2
  iframe

theorem lastE_turn (c : Dev nD) (k : Fin 4) (l : List (Fin 4)) :
    iprop(ctx m ρ K ∗ ow c [] ∗ (cr c (.er k) ∗ at0 c (.er k) ∗ xpt c (oB c 3 (hi k)) fullShare (outV m ρ c)))
      ⊢ WP c (lastE c k) fun _ => iprop(ow c [] ∗ (z c (.er k) ∗ xpt c (oB c 3 (hi k)) fullShare (outF m ρ c) ∗ fr c (p4 reM k))) := by
  unfold lastE
  iintro ⟨#Hc, HO, Hc1, Ha1, Ho⟩
  iapply (wp_seq (wp_wt m ρ K c (.er k) _ above_nil (cred_re k))) $$ [HO Hc1 Ha1]
  · iframe HO Hc1 Ha1; iexact Hc
  dsimp only [pay]
  iintro ⟨HO, Hz, Hq⟩
  iapply (wp_last (wp_add m ρ c 3 (hi k) reM ![64 * k.val, 0] (inb4 k) fullShare (seV m ρ (peer c) k) (seV_in m ρ c k))) $$ [Ho Hq]
  · iframe
  iintro ⟨Ho, Hq⟩
  ihave Hq := (pv_free m c (p4 reM k) _) $$ Hq
  iframe
theorem lastX_turn (c : Dev nD) (k : Fin 2) (l : List (Fin 2)) :
    iprop(ctx m ρ K ∗ ow c [] ∗ (cr c (.ar k) ∗ at0 c (.ar k) ∗ xpt c (oB c 3 (od k)) fullShare (outV m ρ c)))
      ⊢ WP c (lastX c k) fun _ => iprop(ow c [] ∗ (z c (.ar k) ∗ xpt c (oB c 3 (od k)) fullShare (outF m ρ c) ∗ fr c (p2 bxM k))) := by
  unfold lastX
  iintro ⟨#Hc, HO, Hc1, Ha1, Ho⟩
  iapply (wp_seq (wp_wt m ρ K c (.ar k) _ above_nil (cred_bx k))) $$ [HO Hc1 Ha1]
  · iframe HO Hc1 Ha1; iexact Hc
  dsimp only [pay]
  iintro ⟨HO, Hz, Hq⟩
  iapply (wp_last (wp_add m ρ c 3 (od k) bxM ![64 * k.val, 0] (inb2 k) fullShare (stV m ρ (peer (zp (xp c))) (od k)) (in3x m ρ c k))) $$ [Ho Hq]
  · iframe
  iintro ⟨Ho, Hq⟩
  ihave Hq := (pv_free m c (p2 bxM k) _) $$ Hq
  iframe
theorem lastZ_turn (c : Dev nD) (k : Fin 2) (l : List (Fin 2)) :
    iprop(ctx m ρ K ∗ ow c [] ∗ (cr c (.cr k) ∗ at0 c (.cr k) ∗ xpt c (oB c 3 (ev k)) fullShare (outV m ρ c)))
      ⊢ WP c (lastZ c k) fun _ => iprop(ow c [] ∗ (z c (.cr k) ∗ xpt c (oB c 3 (ev k)) fullShare (outF m ρ c) ∗ fr c (p2 bzM k))) := by
  unfold lastZ
  iintro ⟨#Hc, HO, Hc1, Ha1, Ho⟩
  iapply (wp_seq (wp_wt m ρ K c (.cr k) _ above_nil (cred_bz k))) $$ [HO Hc1 Ha1]
  · iframe HO Hc1 Ha1; iexact Hc
  dsimp only [pay]
  iintro ⟨HO, Hz, Hq⟩
  iapply (wp_last (wp_add m ρ c 3 (ev k) bzM ![64 * k.val, 0] (inb2 k) fullShare (stV m ρ (peer (xp (zp c))) (ev k)) (in3z m ρ c k))) $$ [Ho Hq]
  · iframe
  iintro ⟨Ho, Hq⟩
  ihave Hq := (pv_free m c (p2 bzM k) _) $$ Hq
  iframe

theorem sent_turn (c : Dev nD) (k : Fin 8) (l : List (Fin 8)) :
    iprop(ctx m ρ K ∗ ow c [] ∗ ((cr c (.ys k) ∗ at0 c (.ys k)) ∗ (cr c (.xs k) ∗ at0 c (.xs k)) ∗ (cr c (.zs k) ∗ at0 c (.zs k))
        ∗ pv m c (p8 ryM k) shK (stV m ρ (peer c) k)))
      ⊢ WP c (sent k) fun _ => iprop(ow c [] ∗ (z c (.ys k) ∗ z c (.xs k) ∗ z c (.zs k) ∗ fr c (p8 stM k) ∗ fr c (p8 ryM k))) := by
  unfold sent
  iintro ⟨#Hc, HO, ⟨Hc1, Ha1⟩, ⟨Hc2, Ha2⟩, ⟨Hc3, Ha3⟩, HK⟩
  iapply (wp_seq (wp_wt m ρ K c (.ys k) _ above_nil (cred_st k))) $$ [HO Hc1 Ha1]
  · iframe HO Hc1 Ha1; iexact Hc
  dsimp only [pay]
  iintro ⟨HO, Hz1, Hq1⟩
  iapply (wp_seq (wp_wt m ρ K c (.xs k) _ above_nil (cred_ry k))) $$ [HO Hc2 Ha2]
  · iframe HO Hc2 Ha2; iexact Hc
  dsimp only [pay]
  iintro ⟨HO, Hz2, Hq2⟩
  iapply (wp_last (wp_wt m ρ K c (.zs k) _ above_nil (cred_ry k))) $$ [HO Hc3 Ha3]
  · iframe HO Hc3 Ha3; iexact Hc
  dsimp only [pay]
  iintro ⟨HO, Hz3, Hq3⟩
  ihave Hq := (pv_share m c (p8 ryM k) fullShare.right (stV m ρ (peer c) k)).2 $$ [Hq3 HK]
  · iframe
  ihave Hq := (pv_share m c (p8 ryM k) fullShare (stV m ρ (peer c) k)).2 $$ [Hq2 Hq]
  · iframe
  ihave Hq := (pv_free m c (p8 ryM k) _) $$ Hq
  ihave Hq1 := (pv_free m c (p8 stM k) _) $$ Hq1
  iframe
theorem sentE_turn (c : Dev nD) (k : Fin 4) (l : List (Fin 4)) :
    iprop(ctx m ρ K ∗ ow c [] ∗ (cr c (.es k) ∗ at0 c (.es k))) ⊢ WP c (sentE k) fun _ => iprop(ow c [] ∗ (z c (.es k) ∗ fr c (p4 seM k))) := by
  unfold sentE
  iintro ⟨#Hc, HO, Hc1, Ha1⟩
  iapply (wp_last (wp_wt m ρ K c (.es k) _ above_nil (cred_se k))) $$ [HO Hc1 Ha1]
  · iframe HO Hc1 Ha1; iexact Hc
  dsimp only [pay]
  iintro ⟨HO, Hz, Hq⟩
  ihave Hq := (pv_free m c (p4 seM k) _) $$ Hq
  iframe
theorem sentA_turn (c : Dev nD) (k : Fin 2) (l : List (Fin 2)) :
    iprop(ctx m ρ K ∗ ow c [] ∗ (cr c (.as k) ∗ at0 c (.as k) ∗ pv m c (p8 rzM (od k)) fullShare.right (stV m ρ (peer (zp c)) (od k))))
      ⊢ WP c (sentA k) fun _ => iprop(ow c [] ∗ (z c (.as k) ∗ fr c (p8 rzM (od k)))) := by
  unfold sentA
  iintro ⟨#Hc, HO, Hc1, Ha1, HK⟩
  iapply (wp_last (wp_wt m ρ K c (.as k) _ above_nil (cred_rz (od k)))) $$ [HO Hc1 Ha1]
  · iframe HO Hc1 Ha1; iexact Hc
  dsimp only [pay]
  iintro ⟨HO, Hz, Hq⟩
  ihave Hq := (pv_share m c (p8 rzM (od k)) fullShare (stV m ρ (peer (zp c)) (od k))).2 $$ [Hq HK]
  · iframe
  ihave Hq := (pv_free m c (p8 rzM (od k)) _) $$ Hq
  iframe
theorem sentC_turn (c : Dev nD) (k : Fin 2) (l : List (Fin 2)) :
    iprop(ctx m ρ K ∗ ow c [] ∗ (cr c (.cs k) ∗ at0 c (.cs k) ∗ pv m c (p8 rxM (ev k)) fullShare.right (stV m ρ (peer (xp c)) (ev k))))
      ⊢ WP c (sentC k) fun _ => iprop(ow c [] ∗ (z c (.cs k) ∗ fr c (p8 rxM (ev k)))) := by
  unfold sentC
  iintro ⟨#Hc, HO, Hc1, Ha1, HK⟩
  iapply (wp_last (wp_wt m ρ K c (.cs k) _ above_nil (cred_rx (ev k)))) $$ [HO Hc1 Ha1]
  · iframe HO Hc1 Ha1; iexact Hc
  dsimp only [pay]
  iintro ⟨HO, Hz, Hq⟩
  ihave Hq := (pv_share m c (p8 rxM (ev k)) fullShare (stV m ρ (peer (xp c)) (ev k))).2 $$ [Hq HK]
  · iframe
  ihave Hq := (pv_free m c (p8 rxM (ev k)) _) $$ Hq
  iframe

end Cert.AllReduce

end
-- ==== Proof.Loops.lean ====
/-
Each phase of the program as a whole, and the splitting of what a device holds into what the phases need.
-/
module

public import proofs.«01_k».proof.Proof.Phases

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-- `φ` for every number below `n`. -/
abbrev all {n : ℕ} (φ : Fin n → sProp 𝕄) : sProp 𝕄 := bigSep Finset.univ φ

theorem loop8 {P : sProp 𝕄} [BI.Persistent P] {c : Dev nD} {f : Fin 8 → PG F PUnit} {R : List (Fin 8) → sProp 𝕄} {pre post : Fin 8 → sProp 𝕄}
    (h : ∀ i l, iprop(P ∗ R (i :: l) ∗ pre i) ⊢ WP c (f i) fun _ => iprop(R l ∗ post i)) :
    iprop(P ∗ R l8 ∗ all pre) ⊢ WP c (seqF l8 f) fun _ => iprop(R [] ∗ all post) := by
  unfold all
  rw [bigSep_univ_eq_bigSepL l8 (by decide) (by decide), bigSep_univ_eq_bigSepL l8 (by decide) (by decide)]
  exact wp_seqF h l8
theorem loop4 {P : sProp 𝕄} [BI.Persistent P] {c : Dev nD} {f : Fin 4 → PG F PUnit} {R : List (Fin 4) → sProp 𝕄} {pre post : Fin 4 → sProp 𝕄}
    (h : ∀ i l, iprop(P ∗ R (i :: l) ∗ pre i) ⊢ WP c (f i) fun _ => iprop(R l ∗ post i)) :
    iprop(P ∗ R l4 ∗ all pre) ⊢ WP c (seqF l4 f) fun _ => iprop(R [] ∗ all post) := by
  unfold all
  rw [bigSep_univ_eq_bigSepL l4 (by decide) (by decide), bigSep_univ_eq_bigSepL l4 (by decide) (by decide)]
  exact wp_seqF h l4
theorem loop2 {P : sProp 𝕄} [BI.Persistent P] {c : Dev nD} {f : Fin 2 → PG F PUnit} {R : List (Fin 2) → sProp 𝕄} {pre post : Fin 2 → sProp 𝕄}
    (h : ∀ i l, iprop(P ∗ R (i :: l) ∗ pre i) ⊢ WP c (f i) fun _ => iprop(R l ∗ post i)) :
    iprop(P ∗ R l2 ∗ all pre) ⊢ WP c (seqF l2 f) fun _ => iprop(R [] ∗ all post) := by
  unfold all
  rw [bigSep_univ_eq_bigSepL l2 (by decide) (by decide), bigSep_univ_eq_bigSepL l2 (by decide) (by decide)]
  exact wp_seqF h l2

/-! ## Phases -/

abbrev lT : List CI := lE l4 ++ (lR l8 ++ lH l2)
abbrev lU : List CI := lR l8 ++ lH l2

theorem above_U {n : ℕ} (hn : n < 3) : Above n lU := above_append (above_R hn _) (above_H (by omega) _)
theorem above_T : Above 0 lT := above_append (above_E (by decide) _) (above_U (by decide))

theorem collect_all (c : Dev nD) :
    iprop(ctx m ρ K ∗ emp ∗ (all (fun k => xpt c (xq c k) (shQ k) (xstg m ρ c)) ∗ all (fun k => fr c (p8 stM k)) ∗ all (fun k => tk c (.st k))))
      ⊢ WP c (seqF l8 (collect c)) fun _ => iprop(emp ∗ all (fun k => cr c (.st k))) := by
  have h := loop8 (R := fun _ => iprop(emp)) (collect_turn m ρ K c)
  simpa only [all, bigSep_sep'] using h
theorem collectE_all (c : Dev nD) :
    iprop(ctx m ρ K ∗ emp ∗ (all (fun k => xpt c (xe c k) (shE k) (xstg m ρ c)) ∗ all (fun k => fr c (p4 seM k)) ∗ all (fun k => tk c (.se k))))
      ⊢ WP c (seqF l4 (collectE c)) fun _ => iprop(emp ∗ all (fun k => cr c (.se k))) := by
  have h := loop4 (R := fun _ => iprop(emp)) (collectE_turn m ρ K c)
  simpa only [all, bigSep_sep'] using h
theorem sendY_all (c : Dev nD) :
    iprop(ctx m ρ K ∗ ow c lAll ∗ (all (fun k => cr c (.st k)) ∗ all (fun k => at0 c (.st k)) ∗ all (fun k => fr (peer c) (p8 ryM k))
        ∗ all (fun k => tk c (.ys k)) ∗ all (fun k => tk (peer c) (.yr k))))
      ⊢ WP c (seqF l8 (sendY c)) fun _ => iprop(ow c lT ∗ (all (fun k => z c (.st k))
        ∗ all (fun k => xpt c (xq c k) (shQ k) (xstg m ρ c)) ∗ all (fun k => cr c (.ys k)))) := by
  have h := loop8 (R := fun l => ow c (lY l ++ lT)) (sendY_turn m ρ K c lT above_T)
  simp only [all, bigSep_sep'] at h
  exact h
theorem sendE_all (c : Dev nD) :
    iprop(ctx m ρ K ∗ ow c lT ∗ (all (fun k => cr c (.se k)) ∗ all (fun k => at0 c (.se k)) ∗ all (fun k => fr (peer c) (p4 reM k))
        ∗ all (fun k => tk c (.es k)) ∗ all (fun k => tk (peer c) (.er k))))
      ⊢ WP c (seqF l4 (sendE c)) fun _ => iprop(ow c lU ∗ (all (fun k => z c (.se k))
        ∗ all (fun k => xpt c (xe c k) (shE k) (xstg m ρ c)) ∗ all (fun k => cr c (.es k)))) := by
  have h := loop4 (R := fun l => ow c (lE l ++ lU)) (sendE_turn m ρ K c lU (above_U (by decide)))
  simp only [all, bigSep_sep'] at h
  exact h
theorem relay_all (c : Dev nD) :
    iprop(ctx m ρ K ∗ ow c lU ∗ (all (fun k => cr c (.yr k)) ∗ all (fun k => at0 c (.yr k)) ∗ all (fun k => fr (xp c) (p8 rxM k))
        ∗ all (fun k => fr (zp c) (p8 rzM k)) ∗ all (fun k => tk c (.xs k)) ∗ all (fun k => tk (xp c) (.xr k)) ∗ all (fun k => tk c (.zs k))
        ∗ all (fun k => tk (zp c) (.zr k)) ∗ all (fun k => xpt c (oB c 0 k) fullShare (outV m ρ c))))
      ⊢ WP c (seqF l8 (relay c)) fun _ => iprop(ow c (lH l2) ∗ (all (fun k => z c (.yr k)) ∗ all (fun k => cr c (.xs k)) ∗ all (fun k => cr c (.zs k))
        ∗ all (fun k => xpt c (oB c 0 k) fullShare (outF m ρ c)) ∗ all (fun k => pv m c (p8 ryM k) shK (stV m ρ (peer c) k)))) := by
  have h := loop8 (R := fun l => ow c (lR l ++ lH l2)) (relay_turn m ρ K c (lH l2) (above_H (by decide) _))
  simp only [all, bigSep_sep'] at h
  exact h
theorem hop_all (c : Dev nD) :
    iprop(ctx m ρ K ∗ ow c (lH l2)
        ∗ ((all (fun k => cr c (.xr (ev k))) ∗ all (fun k => at0 c (.xr (ev k))) ∗ all (fun k => xpt c (oB c 1 (ev k)) fullShare (outV m ρ c)))
        ∗ (all (fun k => cr c (.zr (ev k))) ∗ all (fun k => at0 c (.zr (ev k))) ∗ all (fun k => xpt c (oB c 2 (ev k)) fullShare (outV m ρ c)))
        ∗ (all (fun k => cr c (.xr (od k))) ∗ all (fun k => at0 c (.xr (od k))) ∗ all (fun k => xpt c (oB c 1 (od k)) fullShare (outV m ρ c)))
        ∗ (all (fun k => cr c (.zr (od k))) ∗ all (fun k => at0 c (.zr (od k))) ∗ all (fun k => xpt c (oB c 2 (od k)) fullShare (outV m ρ c)))
        ∗ all (fun k => fr (zp c) (p2 bzM k)) ∗ all (fun k => tk c (.cs k)) ∗ all (fun k => tk (zp c) (.cr k))
        ∗ all (fun k => fr (xp c) (p2 bxM k)) ∗ all (fun k => tk c (.as k)) ∗ all (fun k => tk (xp c) (.ar k))))
      ⊢ WP c (seqF l2 (hop c)) fun _ => iprop(ow c []
        ∗ ((all (fun k => z c (.xr (ev k))) ∗ all (fun k => xpt c (oB c 1 (ev k)) fullShare (outF m ρ c)))
        ∗ (all (fun k => z c (.zr (ev k))) ∗ all (fun k => xpt c (oB c 2 (ev k)) fullShare (outF m ρ c)))
        ∗ (all (fun k => z c (.xr (od k))) ∗ all (fun k => xpt c (oB c 1 (od k)) fullShare (outF m ρ c)))
        ∗ (all (fun k => z c (.zr (od k))) ∗ all (fun k => xpt c (oB c 2 (od k)) fullShare (outF m ρ c)))
        ∗ all (fun k => cr c (.cs k)) ∗ all (fun k => cr c (.as k))
        ∗ all (fun k => pv m c (p8 rxM (ev k)) fullShare.right (stV m ρ (peer (xp c)) (ev k))) ∗ all (fun k => fr c (p8 rzM (ev k)))
        ∗ all (fun k => fr c (p8 rxM (od k))) ∗ all (fun k => pv m c (p8 rzM (od k)) fullShare.right (stV m ρ (peer (zp c)) (od k))))) := by
  have h := loop2 (R := fun l => ow c (lH l)) (hop_turn m ρ K c)
  simp only [all, bigSep_sep'] at h
  exact h
theorem hopHi_all (c : Dev nD) :
    iprop(ctx m ρ K ∗ ow c []
        ∗ ((all (fun k => cr c (.xr (hi k))) ∗ all (fun k => at0 c (.xr (hi k))) ∗ all (fun k => xpt c (oB c 1 (hi k)) fullShare (outV m ρ c)))
        ∗ (all (fun k => cr c (.zr (hi k))) ∗ all (fun k => at0 c (.zr (hi k))) ∗ all (fun k => xpt c (oB c 2 (hi k)) fullShare (outV m ρ c)))))
      ⊢ WP c (seqF l4 (hopHi c)) fun _ => iprop(ow c []
        ∗ ((all (fun k => z c (.xr (hi k))) ∗ all (fun k => xpt c (oB c 1 (hi k)) fullShare (outF m ρ c)))
        ∗ (all (fun k => z c (.zr (hi k))) ∗ all (fun k => xpt c (oB c 2 (hi k)) fullShare (outF m ρ c)))
        ∗ all (fun k => fr c (p8 rxM (hi k))) ∗ all (fun k => fr c (p8 rzM (hi k))))) := by
  have h := loop4 (R := fun l => ow c []) (hopHi_turn m ρ K c)
  simp only [all, bigSep_sep'] at h
  exact h
theorem lastE_all (c : Dev nD) :
    iprop(ctx m ρ K ∗ ow c [] ∗ (all (fun k => cr c (.er k)) ∗ all (fun k => at0 c (.er k)) ∗ all (fun k => xpt c (oB c 3 (hi k)) fullShare (outV m ρ c))))
      ⊢ WP c (seqF l4 (lastE c)) fun _ => iprop(ow c [] ∗ (all (fun k => z c (.er k)) ∗ all (fun k => xpt c (oB c 3 (hi k)) fullShare (outF m ρ c))
        ∗ all (fun k => fr c (p4 reM k)))) := by
  have h := loop4 (R := fun l => ow c []) (lastE_turn m ρ K c)
  simp only [all, bigSep_sep'] at h
  exact h
theorem lastX_all (c : Dev nD) :
    iprop(ctx m ρ K ∗ ow c [] ∗ (all (fun k => cr c (.ar k)) ∗ all (fun k => at0 c (.ar k)) ∗ all (fun k => xpt c (oB c 3 (od k)) fullShare (outV m ρ c))))
      ⊢ WP c (seqF l2 (lastX c)) fun _ => iprop(ow c [] ∗ (all (fun k => z c (.ar k)) ∗ all (fun k => xpt c (oB c 3 (od k)) fullShare (outF m ρ c))
        ∗ all (fun k => fr c (p2 bxM k)))) := by
  have h := loop2 (R := fun l => ow c []) (lastX_turn m ρ K c)
  simp only [all, bigSep_sep'] at h
  exact h
theorem lastZ_all (c : Dev nD) :
    iprop(ctx m ρ K ∗ ow c [] ∗ (all (fun k => cr c (.cr k)) ∗ all (fun k => at0 c (.cr k)) ∗ all (fun k => xpt c (oB c 3 (ev k)) fullShare (outV m ρ c))))
      ⊢ WP c (seqF l2 (lastZ c)) fun _ => iprop(ow c [] ∗ (all (fun k => z c (.cr k)) ∗ all (fun k => xpt c (oB c 3 (ev k)) fullShare (outF m ρ c))
        ∗ all (fun k => fr c (p2 bzM k)))) := by
  have h := loop2 (R := fun l => ow c []) (lastZ_turn m ρ K c)
  simp only [all, bigSep_sep'] at h
  exact h
theorem sent_all (c : Dev nD) :
    iprop(ctx m ρ K ∗ ow c [] ∗ ((all (fun k => cr c (.ys k)) ∗ all (fun k => at0 c (.ys k))) ∗ (all (fun k => cr c (.xs k)) ∗ all (fun k => at0 c (.xs k)))
        ∗ (all (fun k => cr c (.zs k)) ∗ all (fun k => at0 c (.zs k))) ∗ all (fun k => pv m c (p8 ryM k) shK (stV m ρ (peer c) k))))
      ⊢ WP c (seqF l8 sent) fun _ => iprop(ow c [] ∗ (all (fun k => z c (.ys k)) ∗ all (fun k => z c (.xs k)) ∗ all (fun k => z c (.zs k))
        ∗ all (fun k => fr c (p8 stM k)) ∗ all (fun k => fr c (p8 ryM k)))) := by
  have h := loop8 (R := fun l => ow c []) (sent_turn m ρ K c)
  simp only [all, bigSep_sep'] at h
  exact h
theorem sentE_all (c : Dev nD) :
    iprop(ctx m ρ K ∗ ow c [] ∗ (all (fun k => cr c (.es k)) ∗ all (fun k => at0 c (.es k))))
      ⊢ WP c (seqF l4 sentE) fun _ => iprop(ow c [] ∗ (all (fun k => z c (.es k)) ∗ all (fun k => fr c (p4 seM k)))) := by
  have h := loop4 (R := fun l => ow c []) (sentE_turn m ρ K c)
  simp only [all, bigSep_sep'] at h
  exact h
theorem sentA_all (c : Dev nD) :
    iprop(ctx m ρ K ∗ ow c [] ∗ (all (fun k => cr c (.as k)) ∗ all (fun k => at0 c (.as k))
        ∗ all (fun k => pv m c (p8 rzM (od k)) fullShare.right (stV m ρ (peer (zp c)) (od k)))))
      ⊢ WP c (seqF l2 sentA) fun _ => iprop(ow c [] ∗ (all (fun k => z c (.as k)) ∗ all (fun k => fr c (p8 rzM (od k))))) := by
  have h := loop2 (R := fun l => ow c []) (sentA_turn m ρ K c)
  simp only [all, bigSep_sep'] at h
  exact h
theorem sentC_all (c : Dev nD) :
    iprop(ctx m ρ K ∗ ow c [] ∗ (all (fun k => cr c (.cs k)) ∗ all (fun k => at0 c (.cs k))
        ∗ all (fun k => pv m c (p8 rxM (ev k)) fullShare.right (stV m ρ (peer (xp c)) (ev k)))))
      ⊢ WP c (seqF l2 sentC) fun _ => iprop(ow c [] ∗ (all (fun k => z c (.cs k)) ∗ all (fun k => fr c (p8 rxM (ev k))))) := by
  have h := loop2 (R := fun l => ow c []) (sentC_turn m ρ K c)
  simp only [all, bigSep_sep'] at h
  exact h

/-! ## Splitting -/

/-- Eight pieces: the even ones and the odd ones of the first four, and the last four. -/
theorem all_split (φ : Fin 8 → sProp 𝕄) : all φ = iprop(all (fun k => φ (ev k)) ∗ all (fun k => φ (od k)) ∗ all (fun k => φ (hi k))) := by
  unfold all
  rw [bigSep_univ_eq_bigSepL (l2.map ev ++ (l2.map od ++ l4.map hi)) (by decide) (by decide), bigSepL_append, bigSepL_append, bigSepL_map, bigSepL_map, bigSepL_map,
    bigSep_univ_eq_bigSepL l2 (by decide) (by decide), bigSep_univ_eq_bigSepL l2 (by decide) (by decide), bigSep_univ_eq_bigSepL l4 (by decide) (by decide)]

/-- A property of every transfer cell, family by family. -/
theorem ci_split (φ : CI → sProp 𝕄) : bigSep Finset.univ φ = iprop(φ .lo ∗ all (fun k => φ (.st k)) ∗ all (fun k => φ (.se k)) ∗ all (fun k => φ (.ys k))
    ∗ all (fun k => φ (.yr k)) ∗ all (fun k => φ (.es k)) ∗ all (fun k => φ (.er k)) ∗ all (fun k => φ (.xs k)) ∗ all (fun k => φ (.xr k))
    ∗ all (fun k => φ (.zs k)) ∗ all (fun k => φ (.zr k)) ∗ all (fun k => φ (.as k)) ∗ all (fun k => φ (.ar k)) ∗ all (fun k => φ (.cs k)) ∗ all (fun k => φ (.cr k))) := by
  rw [bigSep_univ_equiv CI.equiv]
  simp only [CS, bigSep_univ_sum, all]
  rw [bigSep_univ_eq_bigSepL [()] (by decide) (by decide), bigSepL_singleton]
  rfl

theorem ci_emp (P : sProp 𝕄) : iprop(P ∗ BI.emp) = P := equiv_iff.mp sep_emp
theorem eq_of {A B : sProp 𝕄} (h : A ⊣⊢ B) : A = B := equiv_iff.mp ⟨h.1, h.2⟩

/-- The transfers to other devices, family by family. -/
theorem lAll_split (φ : CI → sProp 𝕄) : bigSepL lAll φ = iprop(all (fun k => φ (.yr k)) ∗ all (fun k => φ (.er k)) ∗ (all (fun k => φ (.xr k)) ∗ all (fun k => φ (.zr k)))
    ∗ (all (fun k => φ (.cr k)) ∗ all (fun k => φ (.ar k)))) := by
  have h8 : bigSepL (lR l8) φ = iprop(all (fun k => φ (.xr k)) ∗ all (fun k => φ (.zr k))) := by
    unfold all
    rw [← bigSep_sep', bigSep_univ_eq_bigSepL l8 (by decide) (by decide)]
    simp only [lR, l8, List.flatMap_cons, List.flatMap_nil, bigSepL_append, bigSepL_cons', bigSepL_nil, ci_emp]
  have h2 : bigSepL (lH l2) φ = iprop(all (fun k => φ (.cr k)) ∗ all (fun k => φ (.ar k))) := by
    unfold all
    rw [← bigSep_sep', bigSep_univ_eq_bigSepL l2 (by decide) (by decide)]
    simp only [lH, l2, List.flatMap_cons, List.flatMap_nil, bigSepL_append, bigSepL_cons', bigSepL_nil, ci_emp]
  have hy : bigSepL (lY l8) φ = all (fun k => φ (.yr k)) := by
    unfold all lY; rw [bigSepL_map, bigSep_univ_eq_bigSepL l8 (by decide) (by decide)]
  have he : bigSepL (lE l4) φ = all (fun k => φ (.er k)) := by
    unfold all lE; rw [bigSepL_map, bigSep_univ_eq_bigSepL l4 (by decide) (by decide)]
  rw [bigSepL_append, bigSepL_append, bigSepL_append, h8, h2, hy, he]

/-! ## The input -/

/-- What remains of the input when the parts the copies read are taken out. -/
def xrest (c : Dev nD) (f : Buf (Elt F) (xM.view.loc (c : Thread nD τ))) : sProp 𝕄 :=
  iprop((xM.view.loc (c : Thread nD τ) ↦[xM.view.set]{shareDrop fullShare.left 8} f)
    ∗ all (fun k : Fin 8 => (xM.view.loc (c : Thread nD τ) ↦[xM.view.set \ (xq c k).view.set]{shQ k} f : sProp 𝕄))
    ∗ all (fun k : Fin 4 => (xM.view.loc (c : Thread nD τ) ↦[xM.view.set \ (xe c k).view.set]{shE k} f : sProp 𝕄))
    ∗ (xM.view.loc (c : Thread nD τ) ↦[xM.view.set \ (xo c).view.set]{shO} f))
def xparts (c : Dev nD) (f : Buf (Elt F) (xM.view.loc (c : Thread nD τ))) : sProp 𝕄 :=
  iprop(all (fun k => xpt c (xq c k) (shQ k) f) ∗ all (fun k => xpt c (xe c k) (shE k) f) ∗ xpt c (xo c) shO f)

theorem sub_whole (S : Finset (cc0_stg0_0 : Ref sig .tc).ty.Idx) : S ⊆ xM.view.set := fun i _ => by
  show i ∈ (View.whole (cc0_stg0_0 : Ref sig .tc)).set
  rw [View.set_whole]; exact Finset.mem_univ i

theorem x_split (c : Dev nD) (f : Buf (Elt F) (xM.view.loc (c : Thread nD τ))) : xpt c xM fullShare f ⊣⊢ iprop(xparts c f ∗ xrest c f) := by
  have h1 : (xM.view.loc (c : Thread nD τ) ↦[xM.view.set]{fullShare} f : sProp 𝕄) = _ := eq_of (pointsTo_share (PosShare.mem_left_op_right fullShare))
  have h2 : (xM.view.loc (c : Thread nD τ) ↦[xM.view.set]{fullShare.left} f : sProp 𝕄) = _ := eq_of
    ⟨Transfers.pointsTo_toks_split fullShare.left 8, Transfers.pointsTo_toks_join fullShare.left 8⟩
  have h3 : (xM.view.loc (c : Thread nD τ) ↦[xM.view.set]{fullShare.right} f : sProp 𝕄) = _ := eq_of
    ⟨Transfers.pointsTo_toks_split fullShare.right 4, Transfers.pointsTo_toks_join fullShare.right 4⟩
  have hq : ∀ k : Fin 8, (xM.view.loc (c : Thread nD τ) ↦[xM.view.set]{shQ k} f : sProp 𝕄) = _ := fun k => eq_of (pointsTo_split_subset (sub_whole (xq c k).view.set))
  have he : ∀ k : Fin 4, (xM.view.loc (c : Thread nD τ) ↦[xM.view.set]{shE k} f : sProp 𝕄) = _ := fun k => eq_of (pointsTo_split_subset (sub_whole (xe c k).view.set))
  have ho : (xM.view.loc (c : Thread nD τ) ↦[xM.view.set]{shO} f : sProp 𝕄) = _ := eq_of (pointsTo_split_subset (sub_whole (xo c).view.set))
  have h : xpt c xM fullShare f = _ := (show xpt c xM fullShare f = (xM.view.loc (c : Thread nD τ) ↦[xM.view.set]{fullShare} f : sProp 𝕄) from rfl).trans h1
  rw [h, h2, h3, ho, bigSep_congr fun k _ => hq k, bigSep_congr fun k _ => he k, bigSep_sep', bigSep_sep']
  unfold xparts xrest xpt all
  constructor
  · iintro ⟨⟨H1, H2, H3⟩, ⟨H4, H5⟩, H6, H7⟩
    isplitl [H2 H6 H4]
    · isplitl [H2]; · iexact H2
      isplitl [H6]; · iexact H6
      iexact H4
    isplitl [H1]; · iexact H1
    isplitl [H3]; · iexact H3
    isplitl [H7]; · iexact H7
    iexact H5
  · iintro ⟨⟨H2, H6, H4⟩, H1, H3, H7, H5⟩
    isplitl [H1 H2 H3]
    · isplitl [H1]; · iexact H1
      isplitl [H2]; · iexact H2
      iexact H3
    isplitl [H4 H5]
    · isplitl [H4]; · iexact H4
      iexact H5
    isplitl [H6]; · iexact H6
    iexact H7

end Cert.AllReduce

end
-- ==== Proof.Body.lean ====
/-
The whole program of one device: from what it holds when it starts to the result and all places free again.
-/
module

public import proofs.«01_k».proof.Proof.Loops

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-- The eight buffers of a device besides the input's and the result's. -/
def scratch (c : Dev nD) : sProp 𝕄 :=
  iprop(fr c ryM ∗ fr c reM ∗ fr c rxM ∗ fr c rzM ∗ fr c bxM ∗ fr c bzM ∗ fr c stM ∗ fr c seM)
/-- The duties towards the three neighbours' entry semaphores, and towards the transfers' cells. -/
def barToks (c : Dev nD) : sProp 𝕄 :=
  iprop(dutyTok ER (barCell (peer c)) 0 0 ∗ dutyTok ER (barCell (xp c)) 0 1 ∗ dutyTok ER (barCell (zp c)) 0 2)
def myToks (c : Dev nD) : sProp 𝕄 := bigSep Finset.univ fun k : CI => tk (tgt c k) k
/-- The rights to wait for what the neighbours send. -/
def creds (c : Dev nD) : sProp 𝕄 := bigSepL lAll fun k => cr c k

theorem toks_split (c : Dev nD) : (myToks c : sProp 𝕄) = iprop(tk c .lo ∗ all (fun k => tk c (.st k)) ∗ all (fun k => tk c (.se k)) ∗ all (fun k => tk c (.ys k))
    ∗ all (fun k => tk (peer c) (.yr k)) ∗ all (fun k => tk c (.es k)) ∗ all (fun k => tk (peer c) (.er k)) ∗ all (fun k => tk c (.xs k)) ∗ all (fun k => tk (xp c) (.xr k))
    ∗ all (fun k => tk c (.zs k)) ∗ all (fun k => tk (zp c) (.zr k)) ∗ all (fun k => tk c (.as k)) ∗ all (fun k => tk (xp c) (.ar k)) ∗ all (fun k => tk c (.cs k))
    ∗ all (fun k => tk (zp c) (.cr k))) := ci_split _

/-- What a device holds when its program starts, and when it has ended. -/
def pre (c : Dev nD) : sProp 𝕄 :=
  iprop(xpt c xM fullShare (xstg m ρ c) ∗ fr c oM ∗ scratch c ∗ barToks c ∗ (cred (tallyAt (barCell c) () 3) ∗ atPos ER (barCell c) 0 ∅ 0)
    ∗ (bigSep Finset.univ fun k => at0 c k) ∗ creds c ∗ myToks c)
def post (c : Dev nD) : sProp 𝕄 :=
  iprop(ow c [] ∗ xpt c xM fullShare (xstg m ρ c) ∗ xpt c oM fullShare (outF m ρ c) ∗ scratch c ∗ semVal (barCell c) 0 ∗ bigSep Finset.univ fun k => z c k)

/-- The result in its four families of blocks. -/
theorem out_fams (c : Dev nD) (f : Buf (Elt F) (oM.view.loc (c : Thread nD τ))) :
    (xpt c oM fullShare f : sProp 𝕄) = iprop(all (fun k => xpt c (oB c 0 k) fullShare f)
      ∗ (all (fun k => xpt c (oB c 1 (ev k)) fullShare f) ∗ all (fun k => xpt c (oB c 1 (od k)) fullShare f) ∗ all (fun k => xpt c (oB c 1 (hi k)) fullShare f))
      ∗ (all (fun k => xpt c (oB c 2 (ev k)) fullShare f) ∗ all (fun k => xpt c (oB c 2 (od k)) fullShare f) ∗ all (fun k => xpt c (oB c 2 (hi k)) fullShare f))
      ∗ (all (fun k => xpt c (oB c 3 (ev k)) fullShare f) ∗ all (fun k => xpt c (oB c 3 (od k)) fullShare f) ∗ all (fun k => xpt c (oB c 3 (hi k)) fullShare f))) := by
  rw [out_blocks, bigSep_univ_eq_bigSepL [0, 1, 2, 3] (by decide) (by decide), bigSepL_cons_cons, bigSepL_cons_cons, bigSepL_cons_cons, bigSepL_singleton,
    ← all_split (fun k => xpt c (oB c 1 k) fullShare f), ← all_split (fun k => xpt c (oB c 2 k) fullShare f), ← all_split (fun k => xpt c (oB c 3 k) fullShare f)]
  rfl

theorem device_run (c : Dev nD) (W : Waits sig Unit) :
    iprop(ctx m ρ K ∗ owes (c : Thread nD τ) (O₀ c) W ∗ pre m ρ c) ⊢ WP c (device c) fun _ => post m ρ c := by
  unfold device pre scratch creds post
  iintro ⟨#Hc, HO, Hx, Ho, ⟨Hry, Hre, Hrx, Hrz, Hbx, Hbz, Hst, Hse⟩, Hbt, ⟨Hbc, Hba⟩, Hat, Hcr, Htk⟩
  ihave Hat := (Entails.of_eq (ci_split (fun k => at0 c k))) $$ Hat
  icases Hat with ⟨Alo, Ast, Ase, Ays, Ayr, Aes, Aer, Axs, Axr, Azs, Azr, Aas, Aar, Acs, Acr⟩
  ihave Axr := (Entails.of_eq (all_split (fun k => at0 c (.xr k)))) $$ Axr
  icases Axr with ⟨Axe, Axo, Axh⟩
  ihave Azr := (Entails.of_eq (all_split (fun k => at0 c (.zr k)))) $$ Azr
  icases Azr with ⟨Aze, Azo, Azh⟩
  ihave Htk := (Entails.of_eq (toks_split c)) $$ Htk
  icases Htk with ⟨Tlo, Tst, Tse, Tys, Tyr, Tes, Ter, Txs, Txr, Tzs, Tzr, Tas, Tar, Tcs, Tcr⟩
  ihave Hcr := (Entails.of_eq (lAll_split (fun k => cr c k))) $$ Hcr
  icases Hcr with ⟨Cyr, Cer, ⟨Cxr, Czr⟩, Ccr, Car⟩
  ihave Cxr := (Entails.of_eq (all_split (fun k => cr c (.xr k)))) $$ Cxr
  icases Cxr with ⟨Cxe, Cxo, Cxh⟩
  ihave Czr := (Entails.of_eq (all_split (fun k => cr c (.zr k)))) $$ Czr
  icases Czr with ⟨Cze, Czo, Czh⟩
  ihave Hx := (x_split c (xstg m ρ c)).1 $$ Hx
  unfold xparts
  icases Hx with ⟨⟨Xq, Xe, Xo⟩, Xr⟩
  ihave Hry := (fr8 c ryM) $$ Hry
  ihave Hre := (fr4 c reM) $$ Hre
  ihave Hrx := (fr8 c rxM) $$ Hrx
  ihave Hrz := (fr8 c rzM) $$ Hrz
  ihave Hbx := (fr2 c bxM) $$ Hbx
  ihave Hbz := (fr2 c bzM) $$ Hbz
  ihave Hst := (fr8 c stM) $$ Hst
  ihave Hse := (fr4 c seM) $$ Hse
  -- copies
  iapply (wp_seq (collect_all m ρ K c)) $$ [Xq Hst Tst]
  · isplitr; · iexact Hc
    isplitr; · iempintro
    iframe
  iintro ⟨-, Cst⟩
  iapply (wp_seq (collectE_all m ρ K c)) $$ [Xe Hse Tse]
  · isplitr; · iexact Hc
    isplitr; · iempintro
    iframe
  iintro ⟨-, Cse⟩
  iapply (wp_seq (own_step m ρ K c)) $$ [Xo Ho Tlo]
  · isplitr; · iexact Hc
    iframe
  iintro Clo
  -- entry
  unfold barToks
  iapply (wp_seq (wp_enter m ρ K c W)) $$ [HO Hry Hre Hrx Hrz Hbx Hbz Hbt Hbc Hba]
  · isplitr; · iexact Hc
    isplitl [HO]; · iexact HO
    isplitl [Hry Hre Hrx Hrz Hbx Hbz]
    · dsimp only [room]; iframe
    iframe
  dsimp only [room]
  iintro ⟨HO, Zb, ⟨Hry, Hre⟩, ⟨Hrx, Hbx⟩, ⟨Hrz, Hbz⟩⟩
  -- across y
  iapply (wp_seq (sendY_all m ρ K c)) $$ [HO Cst Ast Hry Tys Tyr]
  · isplitr; · iexact Hc
    iframe
  iintro ⟨HO, Zst, Xq, Cys⟩
  iapply (wp_seq (sendE_all m ρ K c)) $$ [HO Cse Ase Hre Tes Ter]
  · isplitr; · iexact Hc
    iframe
  iintro ⟨HO, Zse, Xe, Ces⟩
  iapply (wp_seq (ownWait_step m ρ K c lU (above_U (by decide)))) $$ [HO Clo Alo]
  · isplitr; · iexact Hc
    iframe
  iintro ⟨HO, Zlo, Ho, Xo⟩
  ihave Ho := (Entails.of_eq (out_fams c (outV m ρ c))) $$ Ho
  icases Ho with ⟨O0, ⟨O1e, O1o, O1h⟩, ⟨O2e, O2o, O2h⟩, O3e, O3o, O3h⟩
  -- relayed
  iapply (wp_seq (relay_all m ρ K c)) $$ [HO Cyr Ayr Hrx Hrz Txs Txr Tzs Tzr O0]
  · isplitr; · iexact Hc
    iframe
  iintro ⟨HO, Zyr, Cxs, Czs, O0, Hry⟩
  iapply (wp_seq (hop_all m ρ K c)) $$ [HO Cxe Axe O1e Cze Aze O2e Cxo Axo O1o Czo Azo O2o Hbz Tcs Tcr Hbx Tas Tar]
  · isplitr; · iexact Hc
    iframe
  iintro ⟨HO, ⟨Zxe, O1e⟩, ⟨Zze, O2e⟩, ⟨Zxo, O1o⟩, ⟨Zzo, O2o⟩, Ccs, Cas, Rxe, Rze, Rxo, Rzo⟩
  iapply (wp_seq (hopHi_all m ρ K c)) $$ [HO Cxh Axh O1h Czh Azh O2h]
  · isplitr; · iexact Hc
    iframe
  iintro ⟨HO, ⟨Zxh, O1h⟩, ⟨Zzh, O2h⟩, Rxh, Rzh⟩
  iapply (wp_seq (lastE_all m ρ K c)) $$ [HO Cer Aer O3h]
  · isplitr; · iexact Hc
    iframe
  iintro ⟨HO, Zer, O3h, Hre⟩
  iapply (wp_seq (lastX_all m ρ K c)) $$ [HO Car Aar O3o]
  · isplitr; · iexact Hc
    iframe
  iintro ⟨HO, Zar, O3o, Hbx⟩
  iapply (wp_seq (lastZ_all m ρ K c)) $$ [HO Ccr Acr O3e]
  · isplitr; · iexact Hc
    iframe
  iintro ⟨HO, Zcr, O3e, Hbz⟩
  -- the sends completed
  iapply (wp_seq (sent_all m ρ K c)) $$ [HO Cys Ays Cxs Axs Czs Azs Hry]
  · isplitr; · iexact Hc
    iframe
  iintro ⟨HO, Zys, Zxs, Zzs, Hst, Hry⟩
  iapply (wp_seq (sentE_all m ρ K c)) $$ [HO Ces Aes]
  · isplitr; · iexact Hc
    iframe
  iintro ⟨HO, Zes, Hse⟩
  iapply (wp_seq (sentA_all m ρ K c)) $$ [HO Cas Aas Rzo]
  · isplitr; · iexact Hc
    iframe
  iintro ⟨HO, Zas, Rzo⟩
  iapply (wp_last (sentC_all m ρ K c)) $$ [HO Ccs Acs Rxe]
  · isplitr; · iexact Hc
    iframe
  iintro ⟨HO, Zcs, Rxe⟩
  -- joined again
  ihave Hrx := (Entails.of_eq (all_split (fun k => fr c (p8 rxM k))).symm) $$ [Rxe Rxo Rxh]
  · iframe
  ihave Hrz := (Entails.of_eq (all_split (fun k => fr c (p8 rzM k))).symm) $$ [Rze Rzo Rzh]
  · iframe
  ihave Hry := (unfr8 m c ryM) $$ Hry
  ihave Hre := (unfr4 m c reM) $$ Hre
  ihave Hrx := (unfr8 m c rxM) $$ Hrx
  ihave Hrz := (unfr8 m c rzM) $$ Hrz
  ihave Hbx := (unfr2 m c bxM) $$ Hbx
  ihave Hbz := (unfr2 m c bzM) $$ Hbz
  ihave Hst := (unfr8 m c stM) $$ Hst
  ihave Hse := (unfr4 m c seM) $$ Hse
  ihave Ho := (Entails.of_eq (out_fams c (outF m ρ c)).symm) $$ [O0 O1e O1o O1h O2e O2o O2h O3e O3o O3h]
  · iframe
  ihave Hx := (x_split c (xstg m ρ c)).2 $$ [Xq Xe Xo Xr]
  · unfold xparts; iframe
  ihave Zxr := (Entails.of_eq (all_split (fun k => z c (.xr k))).symm) $$ [Zxe Zxo Zxh]
  · iframe
  ihave Zzr := (Entails.of_eq (all_split (fun k => z c (.zr k))).symm) $$ [Zze Zzo Zzh]
  · iframe
  ihave Hz := (Entails.of_eq (ci_split (fun k => z c k)).symm) $$ [Zlo Zst Zse Zys Zyr Zes Zer Zxs Zxr Zzs Zzr Zas Zar Zcs Zcr]
  · iframe
  unfold scratch; iframe

end Cert.AllReduce

end
-- ==== Proof.Deal.lean ====
/-
The ghost state of the launch: the cells of all devices with their schedule, the duties dealt to the devices that
discharge them, and the rights to wait dealt to the devices that are owed.
-/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-! ## Neighbours go both ways -/

theorem nb_nb (c : Dev nD) (d : Fin 3) : nb (nb c d) d = c := by
  match d with
  | 0 => exact peer_peer c
  | 1 => exact xp_xp c
  | 2 => exact zp_zp c
theorem tgt_tgt (c : Dev nD) (k : CI) : tgt (tgt c k) k = c := by
  cases k <;> first | rfl | exact peer_peer c | exact xp_xp c | exact zp_zp c

/-- A product over the devices, each replaced by the one it is paired with. -/
theorem bigSep_paired (f : Dev nD → Dev nD) (h : ∀ c, f (f c) = c) (Φ : Dev nD → sProp 𝕄) :
    bigSep Finset.univ Φ = bigSep Finset.univ fun c => Φ (f c) :=
  bigSep_univ_equiv ⟨f, f, h, h⟩ Φ

/-- A product of products, the other way round. -/
theorem bigSep_turn {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]
  rfl

/-! ## Cells and duties -/

def cells : Finset (GSem nD τ sig) := Finset.univ.map ⟨kcell, kcell_injective⟩

/-- The duties of a device's own cells: three of its entry semaphore, one of each transfer. -/
abbrev TI : Type := Fin 3 ⊕ CI
def tok (ct : Dev nD × TI) : GSem nD τ sig × ℕ × Fin 3 :=
  match ct.2 with
  | .inl d => (barCell ct.1, 0, d)
  | .inr k => (dcell ct.1 k, 0, 0)
theorem tok_dev (ct : Dev nD × TI) : (tok ct).1.1.1 = ct.1 := by
  obtain ⟨c, _ | _⟩ := ct <;> rfl
theorem tok_injective : Function.Injective tok := by
  rintro ⟨c, t⟩ ⟨c', t'⟩ h
  have h1 : c = c' := by
    have := congrArg (fun x : GSem nD τ sig × ℕ × Fin 3 => x.1.1.1) h
    rwa [tok_dev, tok_dev] at this
  subst h1
  rcases t with d | k <;> rcases t' with d' | k'
  · have : d = d' := congrArg (fun x : GSem nD τ sig × ℕ × Fin 3 => x.2.2) h
    rw [this]
  · have : SemLoc.reg barS = .dma (dsem k') := congrArg (fun x : GSem nD τ sig × ℕ × Fin 3 => x.1.2) h
    cases this
  · have : SemLoc.dma (dsem k) = .reg barS := congrArg (fun x : GSem nD τ sig × ℕ × Fin 3 => x.1.2) h
    cases this
  · have h2 : SemLoc.dma (dsem k) = .dma (dsem k') := congrArg (fun x : GSem nD τ sig × ℕ × Fin 3 => x.1.2) h
    rw [dsem_injective (SemLoc.dma.inj h2)]
def duties : Finset (GSem nD τ sig × ℕ × Fin 3) := Finset.univ.map ⟨tok, tok_injective⟩

/-- The ghost element the run starts with: the launch's own cells and ours. -/
def u₀ : UU := (initOf (Pipeline.cells cfgs cellOf_inj) (Pipeline.launchToks cfgs cellOf_inj), initOf cells duties)

/-- The duties of a device's own cells. -/
def ownToks (c : Dev nD) : sProp 𝕄 :=
  iprop((bigSep Finset.univ fun d : Fin 3 => dutyTok ER (barCell c) 0 d) ∗ bigSep Finset.univ fun k : CI => tk c k)
/-- The positions of a device at its own cells, with the marks that they are there. -/
def marks (c : Dev nD) : sProp 𝕄 :=
  iprop((bigSep Finset.univ fun k : KI => atPos ER (kcell (c, k)) 0 ∅ 0) ∗ bigSep Finset.univ fun k : KI => reached ER (kcell (c, k)) 0)
/-- A device's share of the element, -/
def G (c : Dev nD) : sProp 𝕄 :=
  iprop((bigSep Finset.univ fun k : KI => roundState ER (sched m ρ) (kcell (c, k)) 0) ∗ marks c ∗ ownToks c)
/-- and what it has once all cells are set up: everything known of all cells, its positions, the duties it discharges. -/
def keeps (c : Dev nD) : sProp 𝕄 := iprop((bigSep Finset.univ fun k : KI => atPos ER (kcell (c, k)) 0 ∅ 0) ∗ barToks c ∗ myToks c)
def G' (c : Dev nD) : sProp 𝕄 := iprop(∃ K, records m ρ K ∗ keeps c)

theorem cells_prod (Φ : GSem nD τ sig → sProp 𝕄) :
    bigSep cells Φ = bigSep Finset.univ fun c : Dev nD => bigSep Finset.univ fun k : KI => Φ (kcell (c, k)) := by
  unfold cells; rw [bigSep_map, bigSep_univ_prod]; rfl
theorem duties_prod : bigSep duties (fun x => (dutyTok ER x.1 x.2.1 x.2.2 : sProp 𝕄)) = bigSep Finset.univ fun c : Dev nD => ownToks c := by
  unfold duties; rw [bigSep_map, bigSep_univ_prod]
  exact bigSep_congr fun c _ => by rw [bigSep_univ_sum]; rfl

/-- The element splits into the devices' shares. -/
theorem fund : BI.own (ER (initOf cells duties)) ⊢ (|==> bigSep Finset.univ (G m ρ) : sProp 𝕄) := by
  iintro H
  imod (Rounds.fund ER (sched m ρ) cells duties) $$ H with ⟨Hs, Hr, Ha, Ht⟩
  imodintro
  ihave Hs := (Entails.of_eq (cells_prod fun g => roundState ER (sched m ρ) g 0)) $$ Hs
  ihave Ha := (Entails.of_eq (cells_prod fun g => atPos ER g 0 ∅ 0)) $$ Ha
  ihave Hr := (Entails.of_eq (cells_prod fun g => reached ER g 0)) $$ Hr
  ihave Ht := (Entails.of_eq duties_prod) $$ Ht
  unfold G marks
  simp only [bigSep_sep']
  iframe

/-! ## Semaphores -/

/-- The transfers' semaphores are the kernel's own, the entry semaphore is not. -/
def osem (k : CI) : SemLoc sig := .dma (dsem k)
abbrev ownSems (c : Dev nD) : sProp 𝕄 := Pipeline.ownSems0 (Ix := Unit) (Name := ℕ) (U := UU) (Lvl := ℕ) (Val := Elt F) (τ := τ) osem c

theorem ownSems_eq (c : Dev nD) : (ownSems c : sProp 𝕄) = bigSep Finset.univ fun k => z c k := rfl
theorem unscoped_eq (c : Dev nD) : (unscopedSems0 c : sProp 𝕄) = semVal (barCell c) 0 := by
  unfold unscopedSems0
  rw [bigSep_eq_bigSepL_of_eq [SemLoc.reg barS] (by decide) (by decide), bigSepL_singleton]
theorem ki_split (φ : KI → sProp 𝕄) : bigSep Finset.univ φ = iprop(φ (.inl ()) ∗ bigSep Finset.univ fun k => φ (.inr k)) := by
  rw [bigSep_univ_sum, bigSep_univ_eq_bigSepL [()] (by decide) (by decide), bigSepL_singleton]
  rfl
theorem sems_eq (c : Dev nD) : (bigSep Finset.univ fun k : KI => (semVal (kcell (c, k)) 0 : sProp 𝕄)) = iprop(unscopedSems0 c ∗ ownSems c) := by
  rw [ki_split, unscoped_eq]
  rfl

/-- A cell's counter at zero and its state make its invariant. -/
theorem cell_alloc (g : GSem nD τ sig) :
    iprop(semVal g 0 ∗ roundState ER (sched m ρ) g 0) ⊢ (|={Set.univ}=> ∃ κ : ℕ, cellInv ER (sched m ρ) κ g : sProp 𝕄) :=
  (Rounds.body_intro ER (sched m ρ) g).trans inv_alloc
theorem cells_alloc (c : Dev nD) :
    iprop((bigSep Finset.univ fun k : KI => semVal (kcell (c, k)) 0) ∗ bigSep Finset.univ fun k : KI => roundState ER (sched m ρ) (kcell (c, k)) 0)
      ⊢ (|={Set.univ}=> bigSep Finset.univ fun k => iprop(∃ κ : ℕ, cellInv ER (sched m ρ) κ (kcell (c, k))) : sProp 𝕄) := by
  rw [← bigSep_sep']
  exact (bigSep_mono fun k _ => cell_alloc m ρ _).trans (bigSep_fupd _ _)

/-- A device's cells set up, their names still its own choice. -/
def made (c : Dev nD) : sProp 𝕄 :=
  iprop((bigSep Finset.univ fun k => iprop(∃ κ : ℕ, cellInv ER (sched m ρ) κ (kcell (c, k)))) ∗ marks c ∗ ownToks c)
theorem device_alloc (c : Dev nD) : iprop(ownSems c ∗ unscopedSems0 c ∗ G m ρ c) ⊢ |={Set.univ}=> made m ρ c := by
  unfold G made
  iintro ⟨Ho, Hu, Hs, Hm, Ht⟩
  ihave Hv := (Entails.of_eq (sems_eq (F := F) c).symm) $$ [Ho Hu]
  · iframe
  imod (cells_alloc m ρ c) $$ [Hv Hs] with Hi
  · iframe
  imodintro
  iframe

/-! ## The duties change hands -/

theorem bar_around : (bigSep Finset.univ fun c : Dev nD => bigSep Finset.univ fun d : Fin 3 => (dutyTok ER (barCell c) 0 d : sProp 𝕄))
    = bigSep Finset.univ fun c : Dev nD => barToks c := by
  rw [bigSep_turn, bigSep_congr (s := Finset.univ) fun d _ => bigSep_paired (fun c => nb c d) (fun c => nb_nb c d) fun c => (dutyTok ER (barCell c) 0 d : sProp 𝕄),
    bigSep_turn]
  exact bigSep_congr fun c _ => by
    rw [bigSep_univ_eq_bigSepL [0, 1, 2] (by decide) (by decide), bigSepL_cons_cons, bigSepL_cons_cons, bigSepL_singleton]
    rfl
theorem dma_around : (bigSep Finset.univ fun c : Dev nD => bigSep Finset.univ fun k : CI => (tk c k : sProp 𝕄))
    = bigSep Finset.univ fun c : Dev nD => myToks c := by
  rw [bigSep_turn, bigSep_congr (s := Finset.univ) fun k _ => bigSep_paired (fun c => tgt c k) (fun c => tgt_tgt c k) fun c => (tk c k : sProp 𝕄),
    bigSep_turn]
  rfl
theorem toks_around : (bigSep Finset.univ fun c : Dev nD => (ownToks c : sProp 𝕄))
    = iprop((bigSep Finset.univ fun c => barToks c) ∗ bigSep Finset.univ fun c => myToks c) := by
  unfold ownToks
  rw [bigSep_sep', bar_around, dma_around]

/-- What is known for good goes to every device. -/
theorem share_out {P : sProp 𝕄} [BI.Persistent P] (Φ : Dev nD → sProp 𝕄) : iprop(P ∗ bigSep Finset.univ Φ) ⊢ bigSep Finset.univ fun c => iprop(P ∗ Φ c) :=
  (sep_mono_left (BI.bigSep_of_persistent Finset.univ P)).trans (Entails.of_eq (bigSep_sep' _ _ _).symm)

theorem G'_intro (c : Dev nD) : iprop(records m ρ K ∗ keeps c) ⊢ G' m ρ c := by
  unfold G'
  iintro H
  iexists K; iexact H

theorem deal : bigSep Finset.univ (made m ρ) ⊢ bigSep Finset.univ (G' m ρ) := by
  unfold made marks
  simp only [bigSep_sep']
  rw [toks_around, ← bigSep_univ_prod (fun ck : Dev nD × KI => iprop(∃ κ : ℕ, cellInv ER (sched m ρ) κ (kcell ck))),
    ← bigSep_univ_prod (fun ck : Dev nD × KI => (reached ER (kcell ck) 0 : sProp 𝕄))]
  iintro ⟨Hi, ⟨Ha, #Hr⟩, Hb, Hm⟩
  ihave Hi := (BI.bigSep_exists_pi Finset.univ fun (ck : Dev nD × KI) (κ : ℕ) => (cellInv ER (sched m ρ) κ (kcell ck) : sProp 𝕄)) $$ Hi
  icases Hi with ⟨%K, #Hi⟩
  iapply ((share_out (P := records m ρ K) keeps).trans (bigSep_mono fun c _ => G'_intro m ρ K c))
  unfold records keeps
  simp only [bigSep_sep']
  isplitr
  · isplitr
    · iexact Hi
    · iexact Hr
  iframe

/-- All devices' cells set up at once, and everything dealt. -/
theorem glob : (bigSep Finset.univ fun c => iprop(ownSems c ∗ unscopedSems0 c ∗ G m ρ c) : sProp 𝕄) ⊢ |={Set.univ}=> bigSep Finset.univ (G' m ρ) :=
  ((bigSep_mono fun c _ => device_alloc m ρ c).trans (bigSep_fupd _ _)).trans (BI.fupd_mono (deal m ρ))

/-! ## The rights to wait -/

/-- What all devices owe on one semaphore of the device each is paired with comes to each device once. -/
theorem paired_credit (s : SemLoc sig) (f : Dev nD → Dev nD) (h : ∀ c, f (f c) = c) (n : ℕ) (c : Dev nD) :
    (Pipeline.launchCred (fun d => tallyAt ((f d : Thread nD τ), s) () n) c : sProp 𝕄) ⊢ cred (tallyAt ((c : Thread nD τ), s) () n) :=
  Pipeline.launchCred_tallyAt s f f h h () n c
theorem oweC_credit (l : List CI) (c : Dev nD) : (Pipeline.launchCred (fun d => oweC d l) c : sProp 𝕄) ⊢ bigSepL l fun k => cr c k := by
  induction l with
  | nil => exact (Entails.of_eq (Pipeline.launchCred_zero c))
  | cons k l ih =>
    rw [show (fun d : Dev nD => oweC d (k :: l)) = fun d => oweC d l + tallyAt (dcell (tgt d k) k) () (amt k) from funext fun d => oweC_cons d k l,
      Pipeline.launchCred_add, bigSepL_cons']
    iintro ⟨Hl, Hk⟩
    isplitl [Hk]
    · unfold cr; iapply (paired_credit (.dma (dsem k)) (fun d => tgt d k) (fun d => tgt_tgt d k) (amt k) c); iexact Hk
    · iapply ih; iexact Hl

theorem three_credits (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

theorem launch_credits (c : Dev nD) : (Pipeline.launchCred O₀ c : sProp 𝕄) ⊢ iprop(cred (tallyAt (barCell c) () 3) ∗ creds c) := by
  rw [show (O₀ : Dev nD → CellTallies nD τ sig Unit)
      = fun d => ((oweC d lAll + tallyAt (barCell (zp d)) () 1) + tallyAt (barCell (xp d)) () 1) + tallyAt (barCell (peer d)) () 1 from rfl,
    Pipeline.launchCred_add, Pipeline.launchCred_add, Pipeline.launchCred_add]
  iintro ⟨⟨⟨Hl, Hz⟩, Hx⟩, Hy⟩
  ihave Hz := (paired_credit (F := F) (.reg barS) zp zp_zp 1 c) $$ Hz
  ihave Hx := (paired_credit (F := F) (.reg barS) xp xp_xp 1 c) $$ Hx
  ihave Hy := (paired_credit (F := F) (.reg barS) peer peer_peer 1 c) $$ Hy
  isplitr [Hl]
  · iapply (three_credits (F := F) (barCell c)); iframe
  · unfold creds; iapply (oweC_credit (F := F) lAll c); iexact Hl

end Cert.AllReduce

end
-- ==== Proof.BodyEq.lean ====
/-
The printed body is the program of `Shape`.
-/
module

public import proofs.«01_k».proof.Proof.Shape
public import proofs.«01_k».proof.Proof.Gen.KernelIdeal.Points

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

set_option maxRecDepth 100000 in
set_option maxHeartbeats 4000000 in
/-- The printed body reads the device's number and runs that device's program. -/
theorem body_eq (t : Fin cfg0.N) : bodyAt0 (F := F) t = (Prog.lift .deviceId >>= fun d => device d) := by
  rfl

end Cert.AllReduce

end
-- ==== Proof.Run.lean ====
/-
The run of all devices: the launch's side conditions, the run itself, and the arrays after it.
-/
module

public import proofs.«01_k».proof.Proof.Deal
public import proofs.«01_k».proof.Proof.BodyEq
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-! ## What a device's program starts and ends with, beside its windows -/

/-- Everything known, what the device keeps, and its rights to wait. -/
def start (c : Dev nD) : sProp 𝕄 :=
  iprop((∃ K, records m ρ K ∗ keeps c) ∗ levAts L lv ∗ cred (tallyAt (barCell c) () 3) ∗ creds c)
def atStart (c : Dev nD) : sProp 𝕄 := iprop(start m ρ c ∗ scratch c)
def atEnd (c : Dev nD) : sProp 𝕄 := iprop(scratch c ∗ semVal (barCell c) 0 ∗ bigSep Finset.univ fun k => z c k)

/-- The proof data of the launch: the input's copy unchanged, the result's window holding the sum. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF m ρ c
  Φ t := match t with
    | ⟨0, _⟩ => atStart m ρ c
    | ⟨_ + 1, _⟩ => atEnd c
  q _ := fullShare
  owed t := match t with
    | ⟨0, _⟩ => O₀ c
    | ⟨_ + 1, _⟩ => 0

/-! ## Whole buffers -/

theorem xpt_whole (c : Dev nD) (b : Ref sig .tc) {s : Shape} (M : Memref sig .tc .vmem s .f32) (h : M.view.loc (c : Thread nD τ) = (c : Thread nD τ).loc b)
    (hs : M.view.set = Finset.univ) (q : PosShare TreeShare) (f : Buf (Elt F) (M.view.loc (c : Thread nD τ))) :
    (xpt c M q f : sProp 𝕄) = (M.view.loc (c : Thread nD τ) ↦{q} f) := by
  unfold xpt; rw [hs]

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

theorem xpt_x (c : Dev nD) (f : Buf (Elt F) ((c : Thread nD τ).loc cc0_stg0_0)) :
    (xpt c xM fullShare f : sProp 𝕄) = ((c : Thread nD τ).loc cc0_stg0_0 ↦{fullShare} f) := by
  unfold xpt; simp only [Memref.view_whole, View.set_whole]
theorem xpt_o (c : Dev nD) (f : Buf (Elt F) ((c : Thread nD τ).loc cc0_stg1_0)) :
    (xpt c oM fullShare f : sProp 𝕄) = ((c : Thread nD τ).loc cc0_stg1_0 ↦{fullShare} f) := by
  unfold xpt; simp only [Memref.view_whole, View.set_whole]
theorem scratch_rest (c : Dev nD) : (scratch c : sProp 𝕄) = Pipeline.scopedRest cfg0.spec c := by
  rw [show cfg0.spec = spec0 from rfl, scopedRest0_eq]
  unfold scratch fr
  simp only [Memref.view_whole, View.set_whole]

/-! ## The program of one device meets the launch's demand -/

theorem x_before (c : Dev nD) (t : Fin cfg0.N) (d) : (dats m ρ 0 c).before (0 : Fin 2) t d = xstg m ρ c := by
  unfold Dat.before
  rw [if_pos (fetch0_0 t), fin_N0 t]
  rfl

/-- What a device holds at the start of its program, and what it gives back. -/
def given (c : Dev nD) : sProp 𝕄 :=
  iprop(atStart m ρ c ∗ (dats m ρ 0 c).owesAt () (t0_0 : Fin cfg0.N).castSucc
    ∗ (∃ d, ∃ f : Buf (Elt F) ((c : Thread nD τ).loc cc0_stg0_0), ⌜f = (dats m ρ 0 c).before (0 : Fin 2) t0_0 d⌝ ∗ ((c : Thread nD τ).loc cc0_stg0_0 ↦{fullShare} f))
    ∗ (∃ d, ∃ f : Buf (Elt F) ((c : Thread nD τ).loc cc0_stg1_0), ⌜f = (dats m ρ 0 c).before (1 : Fin 2) t0_0 d⌝ ∗ ((c : Thread nD τ).loc cc0_stg1_0 ↦{fullShare} f)))
def givenBack (c : Dev nD) : sProp 𝕄 :=
  iprop(atEnd c ∗ (dats m ρ 0 c).owesAt () (t0_0 : Fin cfg0.N).succ
    ∗ (∃ f : Buf (Elt F) ((c : Thread nD τ).loc cc0_stg0_0), ⌜f = xstg m ρ c⌝ ∗ ((c : Thread nD τ).loc cc0_stg0_0 ↦{fullShare} f))
    ∗ (∃ f : Buf (Elt F) ((c : Thread nD τ).loc cc0_stg1_0), ⌜f = outF m ρ c⌝ ∗ ((c : Thread nD τ).loc cc0_stg1_0 ↦{fullShare} f)))

theorem o_free (c : Dev nD) (f : Buf (Elt F) ((c : Thread nD τ).loc cc0_stg1_0)) : ((c : Thread nD τ).loc cc0_stg1_0 ↦{fullShare} f : sProp 𝕄) ⊢ fr c oM :=
  (Entails.of_eq (xpt_o c f).symm).trans (xpt_free c oM f)

theorem given_pre (c : Dev nD) : given m ρ c ⊢ iprop(∃ K W, ctx m ρ K ∗ owes (c : Thread nD τ) (O₀ c) W ∗ pre m ρ c) := by
  unfold given atStart start keeps
  iintro ⟨⟨⟨⟨%K, Hr, Ha, Hb, Hm⟩, Hl, Hc3, Hcr⟩, Hs⟩, Ho, ⟨%d0, %g0, %hg0, Hx⟩, ⟨%d1, %g1, -, Hout⟩⟩
  rw [x_before] at hg0
  subst hg0
  unfold Dat.owesAt Pipeline.owesWithin
  icases Ho with ⟨%W, -, HO⟩
  rw [show (dats m ρ 0 c).owed (t0_0 : Fin cfg0.N).castSucc = O₀ c from rfl]
  ihave Ha := (Entails.of_eq (ki_split (F := F) fun k => atPos ER (kcell (c, k)) 0 ∅ 0)) $$ Ha
  icases Ha with ⟨Hab, Ha⟩
  ihave Hx := (Entails.of_eq (xpt_x c (xstg m ρ c)).symm) $$ Hx
  ihave Hout := (o_free c g1) $$ Hout
  iexists K; iexists W
  unfold ctx pre
  isplitl [Hr Hl]; · iframe
  isplitl [HO]; · iexact HO
  isplitl [Hx]; · iexact Hx
  isplitl [Hout]; · iexact Hout
  isplitl [Hs]; · iexact Hs
  isplitl [Hb]; · iexact Hb
  isplitl [Hc3 Hab]
  · isplitl [Hc3]; · iexact Hc3
    iexact Hab
  isplitl [Ha]; · unfold at0; iexact Ha
  isplitl [Hcr] <;> iassumption

theorem post_givenBack (c : Dev nD) : post m ρ c ⊢ givenBack m ρ c := by
  unfold post givenBack atEnd ow Dat.owesAt Pipeline.owesWithin
  iintro ⟨⟨%W, HO⟩, Hx, Hout, Hs, Hb, Hz⟩
  rw [show (dats m ρ 0 c).owed (t0_0 : Fin cfg0.N).succ = oweC c [] from rfl]
  ihave Hx := (Entails.of_eq (xpt_x c (xstg m ρ c))) $$ Hx
  ihave Hout := (Entails.of_eq (xpt_o c (outF m ρ c))) $$ Hout
  isplitl [Hs Hb Hz]; · iframe
  isplitl [HO]
  · iexists W
    isplitr; · ipureintro; exact fun _ _ => Or.inl trivial
    iexact HO
  isplitl [Hx]
  · iexists _
    isplitr; · ipureintro; rfl
    iexact Hx
  · iexists _
    isplitr; · ipureintro; rfl
    iexact Hout

theorem body_run (c : Dev nD) (t : Fin cfg0.N) : given m ρ c ⊢ WP c (bodyAt0 (F := F) t) fun _ => givenBack m ρ c := by
  rw [body_eq]
  unfold WP
  refine (given_pre m ρ c).trans ?_
  iintro ⟨%K, %W, H⟩
  simp only [Prog.lift, Prog.bind_op, Prog.bind_ret, wp_deviceId]
  iapply (wp_wand frame (wpE (defs₀ (F := F)) 𝒱₀ (c : Thread nD τ) none) Set.univ (p := device c) (Q := fun _ => post m ρ c)) $$ [H]
  · iapply (device_run m ρ K c W); iexact H
  iintro %a H
  iapply (post_givenBack m ρ c); iexact H

set_option maxRecDepth 100000 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole]
  exact body_run m ρ c t0_0

/-! ## The launch's side conditions -/

theorem own_facts : Pipeline.OwnSemFacts cfg0.spec osem := by decide +kernel
theorem shares (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hl, Hcr, -, HG⟩
  ihave Hcr := (launch_credits (F := F) c) $$ Hcr
  imodintro
  isplitl
  · iframe
  · iempintro

theorem enter_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m ρ c from rfl, ← scratch_rest]
  unfold atStart
  iintro ⟨Hs, -, Hr⟩
  iframe

theorem leave (c : Dev nD) :
    (dats m ρ 0 c).Φ (Fin.last cfg0.N) ⊢ iprop(unscopedSems0 c ∗ ownSems c ∗ Pipeline.scopedRest cfg0.spec c) := by
  rw [show (dats m ρ 0 c).Φ (Fin.last cfg0.N) = atEnd c from rfl, ← scratch_rest, unscoped_eq, ownSems_eq]
  unfold atEnd
  iintro ⟨Hs, Hb, Hz⟩
  iframe

theorem not_staging : ∀ (w : Fin 2) (s : Fin (spec0 w).nbuf) (k : CI), dsem k ≠ (spec0 w).sem s := by decide +kernel
theorem waits (c : Dev nD) : (levAts L lv : sProp 𝕄) ⊢ Pipeline.cellsWaits cfgs (dats m ρ) () 0 c :=
  Pipeline.cellsWaits_intro cfgs (dats m ρ) () 0 c fun w s t =>
    mayWait_stage c _ (fun k => by
      rcases k with u | k
      · exact fun h => by cases h
      · exact fun h => not_staging w s k (SemLoc.dma.inj h)) _ (by
      rcases t with ⟨_ | _, ht⟩
      · exact Or.inl rfl
      · exact Or.inr rfl)

/-! ## The run -/

/-- A device's arrays after the run. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with all semaphores at zero, every weakly fair run of the sixteen devices
    ends, each array then holding `finalA` and all semaphores at zero again. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := shares m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro H
      ihave H := (ownU_pair _ _) $$ H
      icases H with ⟨Hl, Ho⟩
      imod (fund m ρ) $$ Ho with Ho
      imodintro
      isplitl [Hl] <;> iassumption)
    (hglob := glob m ρ)
    (hA := fun _ _ => rfl) (hpf := fun _ k => k.elim0)
    (X := start m ρ) (Y := fun c => unscopedSems0 c) (Z := fun _ => iprop(emp))
    (hX := start_intro m ρ) (hin := enter_intro m ρ) (hout := leave m ρ)
    (QY := fun c s => ∀ sm : SemLoc sig, sm.isScoped .tc = false → s.sem ((c.tc : Thread nD τ), sm) = 0)
    (hY := fun c s' => by
      iintro ⟨Hu, -, HI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input is what it was, -/
theorem finalA_x (c : Dev nD) : finalA m ρ c (0 : Fin 2) = m ((c : Thread nD τ).loc main_arg0) :=
  (dats (F := F) m ρ 0 c).arrAt_in (0 : Fin 2) rfl _

end Cert.AllReduce

end
-- ==== Proof.Value.lean ====
/-
What the result is: on every device its columns of the sum of the input's two halves.
-/
module

public import proofs.«01_k».proof.Proof.Run
public import proofs.«01_k».proof.Proof.Gen.ReferenceIdeal.Run
public import Idealize.ShloMosaic.Lib.IdealHost
public import Idealize.ShloMosaic.Lib.Pointwise.Reduce
public import Idealize.ShloMosaic.Lib.Layout

@[expose] public section

noncomputable section

namespace Cert.AllReduce

open Cert.KernelIdeal Cert.KernelIdeal.Gen
open Idealize.ShloMosaic Idealize.ShloMosaic.TcCoe
open Idealize.SL Idealize.SL.Sem
open Idealize.ShloMosaic.Pipeline

variable {F : FTy → Type} [FloatOps F]
variable (m : (ℓ : Loc nD τ sig) → Buf (Elt F) ℓ) (ρ : Dev nD → PrngReg)

/-! ## The arrays after the run, element by element -/

/-- What a device fetches is its input, whole. -/
theorem xstg_eq (c : Dev nD) : xstg m ρ c = m ((c : Thread nD τ).loc main_arg0) :=
  Memref.read_access_unit_zero (Elt F) main_arg0 (funext fun a => Nat.zero_mul _) _ _

/-- The result after the run is what the device's program left. -/
theorem finalA_o (c : Dev nD) : finalA m ρ c (1 : Fin 2) = outF m ρ c := by
  have h : (win0_1.blk (0 : Fin 1)).view.read (Elt F) (finalA m ρ c (1 : Fin 2)) = outF m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  exact (Memref.read_access_unit_zero (Elt F) main_v1 (funext fun a => Nat.zero_mul _) _ _).symm.trans h

theorem yc_lt (c : Dev nD) : yc c < 2 := Nat.mod_lt _ (by decide)

/-- The place in a device's input of the element `(r, q)` of device `c`'s columns. -/
def place (c : Dev nD) (i : S2048x512.Idx) : S1x2048x1024.Idx := fun d => match d with
  | 0 => ⟨0, by decide⟩
  | 1 => ⟨(i 0).val, (i 0).isLt⟩
  | 2 => ⟨512 * yc c + (i 1).val, by
      have h := yc_lt c
      have h1 : (i 1).val < 512 := (i 1).isLt
      show 512 * yc c + (i 1).val < 1024; omega⟩

theorem xo_emb (c : Dev nD) (i : S2048x512.Idx) : ((xo c).view.emb i : S1x2048x1024.Idx) = place c i := by
  funext d
  apply Fin.ext
  show k0_off3 c d + 1 * ((Shape.reshapeEquiv squeezes_S1x2048x512_S2048x512.numel_eq i d : Fin _) : ℕ) = (place c i d).val
  rw [off3_eq, Shape.reshapeEquiv_cons_one squeezes_S1x2048x512_S2048x512.numel_eq i]
  match d with
  | 0 => rfl
  | 1 => show 0 + 1 * (i 0).val = (i 0).val; omega
  | 2 => show 512 * yc c + 1 * (i 1).val = 512 * yc c + (i 1).val; omega

/-- A device's columns of an input are read where they lie in it. -/
theorem xo_read (c : Dev nD) (X : (cc0_stg0_0 : Ref sig .tc).ty.Contents (Elt F)) (i : S2048x512.Idx) :
    (xo c).view.read (Elt F) X i = X (place c i) := by
  rw [View.read_apply]
  exact congrArg X (xo_emb c i)

/-- An element of the result: the device's own input there, plus the input there of the device the row's block comes from. -/
theorem finalA_o_apply (c : Dev nD) (i : S2048x512.Idx) :
    (finalA m ρ c (1 : Fin 2) : S2048x512.Idx → Elt F .f32) i = FloatOps.addf (m ((c : Thread nD τ).loc main_arg0) (place c i))
      (m ((srcOf c ((i 0).val / 64) : Thread nD τ).loc main_arg0) (place c i)) := by
  rw [finalA_o]
  unfold outF outV inF
  rw [xo_read, xo_read, xstg_eq, xstg_eq]

/-- The device a block of rows comes from holds the other half of the input. -/
theorem srcOf_yc (c : Dev nD) (b : ℕ) (hb : b < 32) : yc (srcOf c b) = 1 - yc c := by
  have h : ∀ (c : Dev nD) (b : Fin 32), yc (srcOf c b.val) = 1 - yc c := by decide +kernel
  exact h c ⟨b, hb⟩

/-! ## The sum -/

section Sum
open Cert.ReferenceIdeal (S2x2048x1024 S2048x1024)

/-- The sum of an array's two halves, as the reference computes it. -/
abbrev total (x : FVec Ideal S2x2048x1024 .f32) : FVec Ideal S2048x1024 .f32 :=
  Host.reduceAdd x (constant Cert.ReferenceIdeal.S_ .f32 0x00000000#32) Cert.ReferenceIdeal.Gen.reducesTo_S2x2048x1024_S2048x1024_d0 Cert.ReferenceIdeal.Gen.h_S_

/-- An element of the sum: the two halves there, the one numbered `y` and the other, in either order. -/
theorem total_apply (x : FVec Ideal S2x2048x1024 .f32) (j : S2048x1024.Idx) (y z : Fin 2) (h : z.val = 1 - y.val) :
    total x j = (x (ix3 y (j 0) (j 1)) + x (ix3 z (j 0) (j 1)) : EReal) := by
  unfold total
  rw [ValueIdx.hostReduceAdd_apply, Ideal.hostReduceAdd_r3_a0, Fin.sum_univ_two]
  refine (congrArg (· + _) Ideal.ofBits_zero_f32).trans ((zero_add _).trans ?_)
  match y, z, h with
  | 0, 1, _ => rfl
  | 1, 0, _ => exact add_comm _ _

/-- The part of `x` that a device holds: the half its position along `y` names. -/
abbrev half (d : Dev nD) (x : FVec Ideal S2x2048x1024 .f32) : S1x2048x1024.Idx → Ideal .f32 :=
  Layout.blockN ⟨3, ![1, 2048, 1024]⟩ ⟨3, ![2, 2048, 1024]⟩ (Layout.meshBlock [2, 2, 4] ![[1], [], []] d) x

/-- The part of `v` that a device holds: the columns its position along `y` names. -/
abbrev columns (c : Dev nD) (v : FVec Ideal S2048x1024 .f32) : S2048x512.Idx → Ideal .f32 :=
  Layout.blockN ⟨2, ![2048, 512]⟩ ⟨2, ![2048, 1024]⟩ (Layout.meshBlock [2, 2, 4] ![[], [1]] c) v

/-- The row and column, in the whole result, of an element of a device's columns. -/
def whole (c : Dev nD) (i : S2048x512.Idx) : S2048x1024.Idx := fun d => match d with
  | 0 => ⟨(i 0).val, (i 0).isLt⟩
  | 1 => ⟨512 * yc c + (i 1).val, by
      have h := yc_lt c
      have h1 : (i 1).val < 512 := (i 1).isLt
      show 512 * yc c + (i 1).val < 1024; omega⟩

/-- A device's coordinate along `y` is the one the placements name. -/
theorem lin_eq : ∀ d : Dev nD, Layout.meshLin [2, 2, 4] d.val [1] = yc d := by decide +kernel

theorem columns_apply (c : Dev nD) (v : FVec Ideal S2048x1024 .f32) (i : S2048x512.Idx) : columns c v i = v (whole c i) := by
  refine congrArg v (funext fun b => Fin.ext ?_)
  match b with
  | 0 => show 0 * 2048 + (i 0).val = (i 0).val; omega
  | 1 =>
    show Layout.meshLin [2, 2, 4] c.val [1] * 512 + (i 1).val = 512 * yc c + (i 1).val
    rw [lin_eq]; omega

/-- Device `d`'s half, read where an element of device `c`'s columns lies in it. -/
theorem half_apply (x : FVec Ideal S2x2048x1024 .f32) (c d : Dev nD) (i : S2048x512.Idx) :
    half d x (place c i) = x (ix3 ⟨yc d, yc_lt d⟩ (whole c i 0) (whole c i 1)) := by
  refine congrArg x (funext fun b => Fin.ext ?_)
  match b with
  | 0 => show Layout.meshLin [2, 2, 4] d.val [1] * 1 + 0 = yc d; rw [lin_eq]; omega
  | 1 => show 0 * 2048 + (i 0).val = (i 0).val; omega
  | 2 => show 0 * 1024 + (512 * yc c + (i 1).val) = 512 * yc c + (i 1).val; omega

/-- If each device's input is its half of `x`, each device's result is its columns of the sum of the two halves. -/
theorem result_eq (m : (ℓ : Loc nD τ sig) → Buf (Elt Ideal) ℓ) (ρ : Dev nD → PrngReg) (x : FVec Ideal S2x2048x1024 .f32)
    (hx : ∀ c : Dev nD, m ((c : Thread nD τ).loc main_arg0) = half c x) (c : Dev nD) :
    finalA m ρ c (1 : Fin 2) = columns c (total x) := by
  funext i
  have hr : (i 0).val < 2048 := (i 0).isLt
  refine (finalA_o_apply m ρ c i).trans ?_
  rw [hx, hx, half_apply, half_apply, columns_apply,
    total_apply x _ ⟨yc c, yc_lt c⟩ ⟨yc (srcOf c ((i 0).val / 64)), yc_lt _⟩ (srcOf_yc c _ (by omega))]
  rfl
end Sum

end Cert.AllReduce

end
-- ==== Proof.lean ====
/-
The proof of what is claimed: the two frames of the kernel, the reference's, and that the kernel computes the reference's
result. The kernel's run is proved once, for any float values (`Run`); `Value` says what its result is.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.AllReduce

set_option maxRecDepth 100000 in
/-- The kernel and its reading on extended reals have the same functions, -/
theorem bodies_same : Cert.Kernel.defs₀ (F := Bits) = Cert.KernelIdeal.defs₀ (F := Bits) :=
  congrArg Defs.onTc (funext fun l => funext fun a => match l, a with
    | 0, (_, _) => rfl)

/-- and so the same table of what they call. -/
theorem defs_same : Cert.Kernel.defs (F := Bits) = Cert.KernelIdeal.defs (F := Bits) :=
  congrArg (Pipeline.defs Cert.KernelIdeal.pcfgs) bodies_same

/-- The kernel on bit patterns runs, leaves its input as it was, and ends with every semaphore at zero. -/
theorem frame_kernel : Cert.quiescent_Kernel := fun m ρ _ => by
  rw [defs_same]
  exact (θ_run Cert.KernelIdeal.defs _ _).mono (fun _ h => ⟨fun c => (h.1 c (0 : Fin 2)).trans (finalA_x m ρ c), h.2⟩) (run_main (F := Bits) m ρ)

/-- The same of the kernel on extended reals. -/
theorem frame_ideal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)

/-- The reference runs and leaves its input as it was; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On extended reals, each device's result is its columns of the reference's result, which is the sum of the input's halves. -/
theorem algebraic : Cert.algebraic_KernelIdeal_ReferenceIdeal := fun m ρ m' ρ' _ hx =>
  ⟨total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
        ⟨(h.1 c (1 : Fin 2)).trans (result_eq m ρ _ hx c), (h.1 c (0 : Fin 2)).trans (finalA_x m ρ c)⟩)
      (run_main (F := Ideal) m ρ),
    (θ_run Cert.ReferenceIdeal.defs _ _).mono (fun _ h => h 0) (Cert.ReferenceIdeal.Value.run (F := Ideal) m' ρ')⟩

/-- Everything claimed of the kernel and its reference. -/
theorem claim : Cert.Claim :=
  ⟨Cert.Kernel.Gen.facts, Cert.KernelIdeal.Gen.facts, Cert.ReferenceIdeal.Gen.facts, frame_kernel, frame_ideal, frame_reference, trivial, algebraic⟩

end Cert.Proof

end
